-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6))
      ∧ r.2.sem = fun _ => 0)

def preserves_Gla_GlaIdeal : Prop :=
  True

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v45) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v5)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v5) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v58) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6))

def Claim : Prop :=
  ∃ (hGla : Cert.Gla.Facts) (hGlaIdeal : Cert.GlaIdeal.Facts) (hGlaRefIdeal : Cert.GlaRefIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts),
    quiescent_Gla (hGla := hGla)
    ∧ quiescent_GlaIdeal (hGlaIdeal := hGlaIdeal)
    ∧ quiescent_GlaRefIdeal (hGlaRefIdeal := hGlaRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ preserves_Gla_GlaIdeal
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
-- ==== Gla.lean ====
abbrev S2x8192x1024 : Shape := ⟨3, ![2, 8192, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S256 : Shape := ⟨1, ![256]⟩
abbrev S1024x1024 : Shape := ⟨2, ![1024, 1024]⟩
abbrev S_ : Shape := ⟨0, ![]⟩
abbrev S1024x3200 : Shape := ⟨2, ![1024, 3200]⟩
abbrev S128x512 : Shape := ⟨2, ![128, 512]⟩
abbrev S1x1024 : Shape := ⟨2, ![1, 1024]⟩
abbrev S1x512 : Shape := ⟨2, ![1, 512]⟩
abbrev S1x256 : Shape := ⟨2, ![1, 256]⟩
abbrev S1x256x1024 : Shape := ⟨3, ![1, 256, 1024]⟩
abbrev S256x3200 : Shape := ⟨2, ![256, 3200]⟩
abbrev S256x512 : Shape := ⟨2, ![256, 512]⟩
abbrev S256x1024 : Shape := ⟨2, ![256, 1024]⟩
abbrev S4x256x128 : Shape := ⟨3, ![4, 256, 128]⟩
abbrev S256x1 : Shape := ⟨2, ![256, 1]⟩
abbrev S256x128 : Shape := ⟨2, ![256, 128]⟩
abbrev S64x64 : Shape := ⟨2, ![64, 64]⟩
abbrev S64x512 : Shape := ⟨2, ![64, 512]⟩
abbrev S64x128 : Shape := ⟨2, ![64, 128]⟩
abbrev S64x256 : Shape := ⟨2, ![64, 256]⟩
abbrev S1x256x128 : Shape := ⟨3, ![1, 256, 128]⟩
abbrev S1x128 : Shape := ⟨2, ![1, 128]⟩
abbrev S256x64 : Shape := ⟨2, ![256, 64]⟩
abbrev S64 : Shape := ⟨1, ![64]⟩
abbrev S64x1 : Shape := ⟨2, ![64, 1]⟩

abbrev nBuf : Space → Nat
  | .hbm => 20
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S256, .f32⟩
  | .hbm, ⟨6, _⟩ => ⟨S1024x1024, .f32⟩
  | .hbm, ⟨7, _⟩ => ⟨S1024x3088, .bf16⟩
  | .hbm, ⟨8, _⟩ => ⟨S_, .i32⟩
  | .hbm, ⟨9, _⟩ => ⟨S_, .bf16⟩
  | .hbm, ⟨10, _⟩ => ⟨S1024x3200, .bf16⟩
  | .hbm, ⟨11, _⟩ => ⟨S16x512, .bf16⟩
  | .hbm, ⟨12, _⟩ => ⟨S_, .i32⟩
  | .hbm, ⟨13, _⟩ => ⟨S_, .bf16⟩
  | .hbm, ⟨14, _⟩ => ⟨S128x512, .bf16⟩
  | .hbm, ⟨15, _⟩ => ⟨S1x1024, .f32⟩
  | .hbm, ⟨16, _⟩ => ⟨S1x512, .f32⟩
  | .hbm, ⟨17, _⟩ => ⟨S1x256, .f32⟩
  | .hbm, ⟨18, _⟩ => ⟨S1024x1024, .bf16⟩
  | .hbm, ⟨19, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x3200, .bf16⟩
  | .local _ .vmem, ⟨4, _⟩ => ⟨S128x512, .bf16⟩
  | .local _ .vmem, ⟨5, _⟩ => ⟨S1x512, .f32⟩
  | .local _ .vmem, ⟨6, _⟩ => ⟨S1x256, .f32⟩
  | .local _ .vmem, ⟨7, _⟩ => ⟨S1024x1024, .bf16⟩
  | .local _ .vmem, ⟨8, _⟩ => ⟨S1x256x1024, .f32⟩
  | .local _ .vmem, ⟨9, _⟩ => ⟨S1x256x1024, .f32⟩
  | .local _ .vmem, ⟨10, _⟩ => ⟨S256x3200, .f32⟩
  | .local _ .vmem, ⟨11, _⟩ => ⟨S256x512, .f32⟩
  | .local _ .vmem, ⟨12, _⟩ => ⟨S256x1024, .bf16⟩
  | .local _ .vmem, ⟨13, _⟩ => ⟨S4x256x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GlaRefIdeal.lean ====
abbrev S2x8192x1024 : Shape := ⟨3, ![2, 8192, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S256 : Shape := ⟨1, ![256]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3088 : Shape := ⟨3, ![2, 8192, 3088]⟩
abbrev S2x8192x512 : Shape := ⟨3, ![2, 8192, 512]⟩
abbrev S2x8192x16 : Shape := ⟨3, ![2, 8192, 16]⟩
abbrev S1x1x512 : Shape := ⟨3, ![1, 1, 512]⟩
abbrev S2x128x64x4x128 : Shape := ⟨5, ![2, 128, 64, 4, 128]⟩
abbrev S2x4x128x64x128 : Shape := ⟨5, ![2, 4, 128, 64, 128]⟩
abbrev S2x128x64x4x256 : Shape := ⟨5, ![2, 128, 64, 4, 256]⟩
abbrev S2x4x128x64x256 : Shape := ⟨5, ![2, 4, 128, 64, 256]⟩
abbrev S2x4x128x1x128 : Shape := ⟨5, ![2, 4, 128, 1, 128]⟩
abbrev S64x64 : Shape := ⟨2, ![64, 64]⟩
abbrev S2x4x128x64x64 : Shape := ⟨5, ![2, 4, 128, 64, 64]⟩
abbrev S2x4x128x128x256 : Shape := ⟨5, ![2, 4, 128, 128, 256]⟩
abbrev S2x4x128x128 : Shape := ⟨4, ![2, 4, 128, 128]⟩
abbrev S2x4x128x256 : Shape := ⟨4, ![2, 4, 128, 256]⟩
abbrev S128x2x4x128 : Shape := ⟨4, ![128, 2, 4, 128]⟩
abbrev S128x2x4x128x256 : Shape := ⟨5, ![128, 2, 4, 128, 256]⟩
abbrev S1x2x4x128 : Shape := ⟨4, ![1, 2, 4, 128]⟩
abbrev S2x4x128 : Shape := ⟨3, ![2, 4, 128]⟩
abbrev S1x2x4x128x256 : Shape := ⟨5, ![1, 2, 4, 128, 256]⟩
abbrev S2x4x128x1 : Shape := ⟨4, ![2, 4, 128, 1]⟩
abbrev S2x8192x4x256 : Shape := ⟨4, ![2, 8192, 4, 256]⟩
abbrev S2x8192x4 : Shape := ⟨3, ![2, 8192, 4]⟩
abbrev S2x8192x4x1 : Shape := ⟨4, ![2, 8192, 4, 1]⟩
abbrev S1x1x1x256 : Shape := ⟨4, ![1, 1, 1, 256]⟩

abbrev nBuf : Space → Nat
  | .hbm => 168
  | .vmem => 0
  | .smem => 0
  | _ => 0

abbrev hbmTy0_0 (i : Nat) : BufTy := match i % 128 with
  | 0 => ⟨S2x8192x1024, .f32⟩
  | 1 => ⟨S1024, .f32⟩
  | 2 => ⟨S1024x3088, .f32⟩
  | 3 => ⟨S16x512, .f32⟩
  | 4 => ⟨S512, .f32⟩
  | 5 => ⟨S256, .f32⟩
  | 6 => ⟨S1024x1024, .f32⟩
  | 7 => ⟨S2x8192x1024, .f32⟩
  | 8 => ⟨S_, .f32⟩
  | 9 => ⟨S2x8192, .f32⟩
  | 10 => ⟨S2x8192x1, .f32⟩
  | 11 => ⟨S_, .f32⟩
  | 12 => ⟨S2x8192x1, .f32⟩
  | 13 => ⟨S2x8192x1, .f32⟩
  | 14 => ⟨S_, .f32⟩
  | 15 => ⟨S2x8192x1, .f32⟩
  | 16 => ⟨S2x8192x1, .f32⟩
  | 17 => ⟨S2x8192x1, .f32⟩
  | 18 => ⟨S2x8192x1024, .f32⟩
  | 19 => ⟨S2x8192x1024, .f32⟩
  | 20 => ⟨S1x1x1024, .f32⟩
  | 21 => ⟨S2x8192x1024, .f32⟩
  | 22 => ⟨S2x8192x1024, .f32⟩
  | 23 => ⟨S2x8192x3088, .f32⟩
  | 24 => ⟨S2x8192x512, .f32⟩
  | 25 => ⟨S2x8192x512, .f32⟩
  | 26 => ⟨S2x8192x1024, .f32⟩
  | 27 => ⟨S2x8192x1024, .f32⟩
  | 28 => ⟨S2x8192x16, .f32⟩
  | 29 => ⟨S2x8192x512, .f32⟩
  | 30 => ⟨S1x1x512, .f32⟩
  | 31 => ⟨S2x8192x512, .f32⟩
  | 32 => ⟨S2x8192x512, .f32⟩
  | 33 => ⟨S2x8192x512, .f32⟩
  | 34 => ⟨S_, .f32⟩
  | 35 => ⟨S2x8192x512, .f32⟩
  | 36 => ⟨S2x8192x512, .f32⟩
  | 37 => ⟨S2x8192x512, .f32⟩
  | 38 => ⟨S2x8192x512, .f32⟩
  | 39 => ⟨S2x8192x512, .i1⟩
  | 40 => ⟨S2x8192x512, .f32⟩
  | 41 => ⟨S2x8192x512, .f32⟩
  | 42 => ⟨S2x8192x512, .f32⟩
  | 43 => ⟨S2x8192x512, .f32⟩
  | 44 => ⟨S2x8192x512, .f32⟩
  | 45 => ⟨S2x8192x512, .f32⟩
  | 46 => ⟨S2x8192x512, .f32⟩
  | 47 => ⟨S2x8192x512, .f32⟩
  | 48 => ⟨S2x8192x512, .f32⟩
  | 49 => ⟨S_, .f32⟩
  | 50 => ⟨S2x8192x512, .f32⟩
  | 51 => ⟨S2x8192x512, .f32⟩
  | 52 => ⟨S2x128x64x4x128, .f32⟩
  | 53 => ⟨S2x4x128x64x128, .f32⟩
  | 54 => ⟨S_, .f32⟩
  | 55 => ⟨S2x4x128x64x128, .f32⟩
  | 56 => ⟨S2x4x128x64x128, .f32⟩
  | 57 => ⟨S2x128x64x4x128, .f32⟩
  | 58 => ⟨S2x4x128x64x128, .f32⟩
  | 59 => ⟨S2x128x64x4x256, .f32⟩
  | 60 => ⟨S2x4x128x64x256, .f32⟩
  | 61 => ⟨S2x128x64x4x128, .f32⟩
  | 62 => ⟨S2x4x128x64x128, .f32⟩
  | 63 => ⟨S_, .f32⟩
  | 64 => ⟨S_, .f32⟩
  | 65 => ⟨S2x4x128x64x128, .f32⟩
  | 66 => ⟨S2x4x128x1x128, .f32⟩
  | 67 => ⟨S2x4x128x64x128, .f32⟩
  | 68 => ⟨S2x4x128x64x128, .f32⟩
  | 69 => ⟨S2x4x128x64x128, .f32⟩
  | 70 => ⟨S2x4x128x64x128, .f32⟩
  | 71 => ⟨S2x4x128x64x128, .f32⟩
  | 72 => ⟨S2x4x128x64x128, .f32⟩
  | 73 => ⟨S2x4x128x64x128, .f32⟩
  | 74 => ⟨S2x4x128x64x128, .f32⟩
  | 75 => ⟨S2x4x128x64x128, .f32⟩
  | 76 => ⟨S_, .i1⟩
  | 77 => ⟨S64x64, .i1⟩
  | 78 => ⟨S64x64, .i32⟩
  | 79 => ⟨S_, .i32⟩
  | 80 => ⟨S64x64, .i32⟩
  | 81 => ⟨S64x64, .i32⟩
  | 82 => ⟨S64x64, .i32⟩
  | 83 => ⟨S64x64, .i1⟩
  | 84 => ⟨S_, .i1⟩
  | 85 => ⟨S64x64, .i1⟩
  | 86 => ⟨S64x64, .i1⟩
  | 87 => ⟨S2x4x128x64x64, .f32⟩
  | 88 => ⟨S_, .f32⟩
  | 89 => ⟨S_, .f32⟩
  | 90 => ⟨S2x4x128x64x64, .i1⟩
  | 91 => ⟨S2x4x128x64x64, .f32⟩
  | 92 => ⟨S2x4x128x64x64, .f32⟩
  | 93 => ⟨S2x4x128x64x256, .f32⟩
  | 94 => ⟨S2x4x128x128x256, .f32⟩
  | 95 => ⟨S2x4x128x128, .f32⟩
  | 96 => ⟨S2x4x128x128, .f32⟩
  | 97 => ⟨S_, .f32⟩
  | 98 => ⟨S2x4x128x256, .f32⟩
  | 99 => ⟨S128x2x4x128, .f32⟩
  | 100 => ⟨S128x2x4x128x256, .f32⟩
  | 101 => ⟨S_, .f32⟩
  | 102 => ⟨S128x2x4x128x256, .f32⟩
  | 103 => ⟨S_, .i32⟩
  | 104 => ⟨S128x2x4x128, .f32⟩
  | 105 => ⟨S128x2x4x128x256, .f32⟩
  | 106 => ⟨S_, .i32⟩
  | 107 => ⟨S2x4x128x256, .f32⟩
  | 108 => ⟨S128x2x4x128x256, .f32⟩
  | 109 => ⟨S_, .i32⟩
  | 110 => ⟨S_, .i1⟩
  | 111 => ⟨S_, .i32⟩
  | 112 => ⟨S_, .i32⟩
  | 113 => ⟨S_, .i32⟩
  | 114 => ⟨S1x2x4x128, .f32⟩
  | 115 => ⟨S2x4x128, .f32⟩
  | 116 => ⟨S_, .i32⟩
  | 117 => ⟨S_, .i32⟩
  | 118 => ⟨S_, .i32⟩
  | 119 => ⟨S_, .i32⟩
  | 120 => ⟨S1x2x4x128x256, .f32⟩
  | 121 => ⟨S2x4x128x256, .f32⟩
  | 122 => ⟨S2x4x128x1, .f32⟩
  | 123 => ⟨S2x4x128x256, .f32⟩
  | 124 => ⟨S2x4x128x256, .f32⟩
  | 125 => ⟨S2x4x128x256, .f32⟩
  | 126 => ⟨S1x2x4x128x256, .f32⟩
  | 127 => ⟨S_, .i32⟩
  | _ => ⟨S2x8192x1024, .f32⟩

abbrev hbmTy0_1 (i : Nat) : BufTy := match i % 128 with
  | 0 => ⟨S_, .i32⟩
  | 1 => ⟨S_, .i32⟩
  | 2 => ⟨S_, .i32⟩
  | 3 => ⟨S128x2x4x128x256, .f32⟩
  | 4 => ⟨S_, .i32⟩
  | 5 => ⟨S_, .i32⟩
  | 6 => ⟨S2x4x128x64x256, .f32⟩
  | 7 => ⟨S2x4x128x64x256, .f32⟩
  | 8 => ⟨S2x128x64x4x256, .f32⟩
  | 9 => ⟨S2x8192x4x256, .f32⟩
  | 10 => ⟨S2x8192x4x256, .f32⟩
  | 11 => ⟨S_, .f32⟩
  | 12 => ⟨S2x8192x4, .f32⟩
  | 13 => ⟨S2x8192x4x1, .f32⟩
  | 14 => ⟨S_, .f32⟩
  | 15 => ⟨S2x8192x4x1, .f32⟩
  | 16 => ⟨S2x8192x4x1, .f32⟩
  | 17 => ⟨S_, .f32⟩
  | 18 => ⟨S2x8192x4x1, .f32⟩
  | 19 => ⟨S2x8192x4x1, .f32⟩
  | 20 => ⟨S2x8192x4x1, .f32⟩
  | 21 => ⟨S2x8192x4x256, .f32⟩
  | 22 => ⟨S2x8192x4x256, .f32⟩
  | 23 => ⟨S1x1x1x256, .f32⟩
  | 24 => ⟨S2x8192x4x256, .f32⟩
  | 25 => ⟨S2x8192x4x256, .f32⟩
  | 26 => ⟨S2x8192x4x256, .f32⟩
  | 27 => ⟨S2x8192x4x256, .f32⟩
  | 28 => ⟨S2x8192x4x256, .f32⟩
  | 29 => ⟨S_, .f32⟩
  | 30 => ⟨S2x8192x4x256, .f32⟩
  | 31 => ⟨S2x8192x4x256, .f32⟩
  | 32 => ⟨S_, .f32⟩
  | 33 => ⟨S2x8192x4x256, .f32⟩
  | 34 => ⟨S2x8192x4x256, .f32⟩
  | 35 => ⟨S2x8192x4x256, .f32⟩
  | 36 => ⟨S2x8192x4x256, .f32⟩
  | 37 => ⟨S2x8192x1024, .f32⟩
  | 38 => ⟨S2x8192x1024, .f32⟩
  | 39 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_3 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_call1_call0_cst : Ref sig .tc := ⟨.hbm, 63, rfl⟩
abbrev main_call1_call0_v0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c : Ref sig .tc := ⟨.hbm, 76, rfl⟩
abbrev main_v47 : Ref sig .tc := ⟨.hbm, 77, rfl⟩
abbrev main_call2_v0 : Ref sig .tc := ⟨.hbm, 78, rfl⟩
abbrev main_call2_c : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_c_0 : Ref sig .tc := ⟨.hbm, 84, rfl⟩
abbrev main_call2_v5 : Ref sig .tc := ⟨.hbm, 85, rfl⟩
abbrev main_v48 : Ref sig .tc := ⟨.hbm, 86, rfl⟩
abbrev main_v49 : Ref sig .tc := ⟨.hbm, 87, rfl⟩
abbrev main_cst_4 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_5 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_6 : Ref sig .tc := ⟨.hbm, 101, rfl⟩
abbrev main_v58 : Ref sig .tc := ⟨.hbm, 102, rfl⟩
abbrev main_c_7 : Ref sig .tc := ⟨.hbm, 103, rfl⟩
abbrev main_v59_0 : Ref sig .tc := ⟨.hbm, 104, rfl⟩
abbrev main_v59_1 : Ref sig .tc := ⟨.hbm, 105, rfl⟩
abbrev main_v59_2 : Ref sig .tc := ⟨.hbm, 106, rfl⟩
abbrev main_v59_3 : Ref sig .tc := ⟨.hbm, 107, rfl⟩
abbrev main_v59_4 : Ref sig .tc := ⟨.hbm, 108, rfl⟩
abbrev main_while0c_c_15 : Ref sig .tc := ⟨.hbm, 109, rfl⟩
abbrev main_while0c_v83 : Ref sig .tc := ⟨.hbm, 110, rfl⟩
abbrev main_while0b_call4_c : Ref sig .tc := ⟨.hbm, 111, rfl⟩
abbrev main_while0b_call4_c_0 : Ref sig .tc := ⟨.hbm, 112, rfl⟩
abbrev main_while0b_call4_c_1 : Ref sig .tc := ⟨.hbm, 113, rfl⟩
abbrev main_while0b_call4_v0 : Ref sig .tc := ⟨.hbm, 114, rfl⟩
abbrev main_while0b_v83 : Ref sig .tc := ⟨.hbm, 115, rfl⟩
abbrev main_while0b_call5_c : Ref sig .tc := ⟨.hbm, 116, rfl⟩
abbrev main_while0b_call5_c_0 : Ref sig .tc := ⟨.hbm, 117, rfl⟩
abbrev main_while0b_call5_c_1 : Ref sig .tc := ⟨.hbm, 118, rfl⟩
abbrev main_while0b_call5_c_2 : Ref sig .tc := ⟨.hbm, 119, rfl⟩
abbrev main_while0b_call5_v0 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_call6_v0 : Ref sig .tc := ⟨.hbm, 126, rfl⟩
abbrev main_while0b_call6_c : Ref sig .tc := ⟨.hbm, 127, rfl⟩
abbrev main_while0b_call6_c_0 : Ref sig .tc := ⟨.hbm, 128, rfl⟩
abbrev main_while0b_call6_c_1 : Ref sig .tc := ⟨.hbm, 129, rfl⟩
abbrev main_while0b_call6_c_2 : Ref sig .tc := ⟨.hbm, 130, rfl⟩
abbrev main_while0b_v89 : Ref sig .tc := ⟨.hbm, 131, rfl⟩
abbrev main_while0b_c_15 : Ref sig .tc := ⟨.hbm, 132, rfl⟩
abbrev main_while0b_v90 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_cst_8 : Ref sig .tc := ⟨.hbm, 139, rfl⟩
abbrev main_v65 : Ref sig .tc := ⟨.hbm, 140, rfl⟩
abbrev main_v66 : Ref sig .tc := ⟨.hbm, 141, rfl⟩
abbrev main_cst_9 : Ref sig .tc := ⟨.hbm, 142, rfl⟩
abbrev main_v67 : Ref sig .tc := ⟨.hbm, 143, rfl⟩
abbrev main_v68 : Ref sig .tc := ⟨.hbm, 144, rfl⟩
abbrev main_cst_10 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_call7_v0 : Ref sig .tc := ⟨.hbm, 155, rfl⟩
abbrev main_call7_v1 : Ref sig .tc := ⟨.hbm, 156, rfl⟩
abbrev main_call7_cst : Ref sig .tc := ⟨.hbm, 157, rfl⟩
abbrev main_call7_v2 : Ref sig .tc := ⟨.hbm, 158, rfl⟩
abbrev main_call7_v3 : Ref sig .tc := ⟨.hbm, 159, rfl⟩
abbrev main_call7_cst_0 : Ref sig .tc := ⟨.hbm, 160, rfl⟩
abbrev main_call7_v4 : Ref sig .tc := ⟨.hbm, 161, rfl⟩
abbrev main_call7_v5 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩

abbrev nD : Nat := 1
abbrev τ : Topo := Topo.v7x

variable {F : FTy → Type} [FloatOps F]

abbrev main_while0_count : Scf.Loop 32 := ⟨0#32, 128#32, 1#32⟩
-- ==== Ffn.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S512x2816 : Shape := ⟨2, ![512, 2816]⟩
abbrev S22x8x256 : Shape := ⟨3, ![22, 8, 256]⟩
abbrev S512x1024 : Shape := ⟨2, ![512, 1024]⟩
abbrev S512 : Shape := ⟨1, ![512]⟩
abbrev S512x1 : Shape := ⟨2, ![512, 1]⟩
abbrev S8x256 : Shape := ⟨2, ![8, 256]⟩
abbrev S1024x256 : Shape := ⟨2, ![1024, 256]⟩
abbrev S512x256 : Shape := ⟨2, ![512, 256]⟩
abbrev S1x8x256 : Shape := ⟨3, ![1, 8, 256]⟩
abbrev S3x256 : Shape := ⟨2, ![3, 256]⟩
abbrev S1x256 : Shape := ⟨2, ![1, 256]⟩
abbrev S504x256 : Shape := ⟨2, ![504, 256]⟩

abbrev nBuf : Space → Nat
  | .hbm => 13
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x2816, .bf16⟩
  | .local _ .vmem, ⟨11, _⟩ => ⟨S22x8x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x8192x5632, .f32⟩
  | .hbm, ⟨24, _⟩ => ⟨S_, .i32⟩
  | .hbm, ⟨25, _⟩ => ⟨S_, .f32⟩
  | .hbm, ⟨26, _⟩ => ⟨S2x8194x5632, .f32⟩
  | .hbm, ⟨27, _⟩ => ⟨S1x5632, .f32⟩
  | .hbm, ⟨28, _⟩ => ⟨S5632, .f32⟩
  | .hbm, ⟨29, _⟩ => ⟨S2x8192x5632, .f32⟩
  | .hbm, ⟨30, _⟩ => ⟨S1x1x5632, .f32⟩
  | .hbm, ⟨31, _⟩ => ⟨S2x8192x5632, .f32⟩
  | .hbm, ⟨32, _⟩ => ⟨S2x8192x5632, .f32⟩
  | .hbm, ⟨33, _⟩ => ⟨S_, .f32⟩
  | .hbm, ⟨34, _⟩ => ⟨S2x8192x5632, .f32⟩
  | .hbm, ⟨35, _⟩ => ⟨S2x8192x5632, .f32⟩
  | .hbm, ⟨36, _⟩ => ⟨S1x5632, .f32⟩
  | .hbm, ⟨37, _⟩ => ⟨S5632, .f32⟩
  | .hbm, ⟨38, _⟩ => ⟨S2x8192x5632, .f32⟩
  | .hbm, ⟨39, _⟩ => ⟨S1x1x5632, .f32⟩
  | .hbm, ⟨40, _⟩ => ⟨S2x8192x5632, .f32⟩
  | .hbm, ⟨41, _⟩ => ⟨S2x8192x5632, .f32⟩
  | .hbm, ⟨42, _⟩ => ⟨S2x8192x5632, .f32⟩
  | .hbm, ⟨43, _⟩ => ⟨S1x5632, .f32⟩
  | .hbm, ⟨44, _⟩ => ⟨S5632, .f32⟩
  | .hbm, ⟨45, _⟩ => ⟨S2x8192x5632, .f32⟩
  | .hbm, ⟨46, _⟩ => ⟨S1x1x5632, .f32⟩
  | .hbm, ⟨47, _⟩ => ⟨S2x8192x5632, .f32⟩
  | .hbm, ⟨48, _⟩ => ⟨S2x8192x5632, .f32⟩
  | .hbm, ⟨49, _⟩ => ⟨S2x8192x5632, .f32⟩
  | .hbm, ⟨50, _⟩ => ⟨S1x1x5632, .f32⟩
  | .hbm, ⟨51, _⟩ => ⟨S2x8192x5632, .f32⟩
  | .hbm, ⟨52, _⟩ => ⟨S2x8192x5632, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S_, .f32⟩
  | .hbm, ⟨58, _⟩ => ⟨S2x8192x2816, .f32⟩
  | .hbm, ⟨59, _⟩ => ⟨S2x8192x2816, .f32⟩
  | .hbm, ⟨60, _⟩ => ⟨S_, .f32⟩
  | .hbm, ⟨61, _⟩ => ⟨S2x8192x2816, .f32⟩
  | .hbm, ⟨62, _⟩ => ⟨S2x8192x2816, .f32⟩
  | .hbm, ⟨63, _⟩ => ⟨S2x8192x2816, .f32⟩
  | .hbm, ⟨64, _⟩ => ⟨S2x8192x2816, .f32⟩
  | .hbm, ⟨65, _⟩ => ⟨S2x8192x1024, .f32⟩
  | .hbm, ⟨66, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Last.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S512x2816 : Shape := ⟨2, ![512, 2816]⟩
abbrev S22x8x256 : Shape := ⟨3, ![22, 8, 256]⟩
abbrev S512x1024 : Shape := ⟨2, ![512, 1024]⟩
abbrev S512 : Shape := ⟨1, ![512]⟩
abbrev S512x1 : Shape := ⟨2, ![512, 1]⟩
abbrev S8x256 : Shape := ⟨2, ![8, 256]⟩
abbrev S1024x256 : Shape := ⟨2, ![1024, 256]⟩
abbrev S512x256 : Shape := ⟨2, ![512, 256]⟩
abbrev S1x8x256 : Shape := ⟨3, ![1, 8, 256]⟩
abbrev S3x256 : Shape := ⟨2, ![3, 256]⟩
abbrev S1x256 : Shape := ⟨2, ![1, 256]⟩
abbrev S504x256 : Shape := ⟨2, ![504, 256]⟩

abbrev nBuf : Space → Nat
  | .hbm => 13
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x2816, .bf16⟩
  | .local _ .vmem, ⟨11, _⟩ => ⟨S22x8x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== LastRefIdeal.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x8192x5632, .f32⟩
  | .hbm, ⟨24, _⟩ => ⟨S_, .i32⟩
  | .hbm, ⟨25, _⟩ => ⟨S_, .f32⟩
  | .hbm, ⟨26, _⟩ => ⟨S2x8194x5632, .f32⟩
  | .hbm, ⟨27, _⟩ => ⟨S1x5632, .f32⟩
  | .hbm, ⟨28, _⟩ => ⟨S5632, .f32⟩
  | .hbm, ⟨29, _⟩ => ⟨S2x8192x5632, .f32⟩
  | .hbm, ⟨30, _⟩ => ⟨S1x1x5632, .f32⟩
  | .hbm, ⟨31, _⟩ => ⟨S2x8192x5632, .f32⟩
  | .hbm, ⟨32, _⟩ => ⟨S2x8192x5632, .f32⟩
  | .hbm, ⟨33, _⟩ => ⟨S_, .f32⟩
  | .hbm, ⟨34, _⟩ => ⟨S2x8192x5632, .f32⟩
  | .hbm, ⟨35, _⟩ => ⟨S2x8192x5632, .f32⟩
  | .hbm, ⟨36, _⟩ => ⟨S1x5632, .f32⟩
  | .hbm, ⟨37, _⟩ => ⟨S5632, .f32⟩
  | .hbm, ⟨38, _⟩ => ⟨S2x8192x5632, .f32⟩
  | .hbm, ⟨39, _⟩ => ⟨S1x1x5632, .f32⟩
  | .hbm, ⟨40, _⟩ => ⟨S2x8192x5632, .f32⟩
  | .hbm, ⟨41, _⟩ => ⟨S2x8192x5632, .f32⟩
  | .hbm, ⟨42, _⟩ => ⟨S2x8192x5632, .f32⟩
  | .hbm, ⟨43, _⟩ => ⟨S1x5632, .f32⟩
  | .hbm, ⟨44, _⟩ => ⟨S5632, .f32⟩
  | .hbm, ⟨45, _⟩ => ⟨S2x8192x5632, .f32⟩
  | .hbm, ⟨46, _⟩ => ⟨S1x1x5632, .f32⟩
  | .hbm, ⟨47, _⟩ => ⟨S2x8192x5632, .f32⟩
  | .hbm, ⟨48, _⟩ => ⟨S2x8192x5632, .f32⟩
  | .hbm, ⟨49, _⟩ => ⟨S2x8192x5632, .f32⟩
  | .hbm, ⟨50, _⟩ => ⟨S1x1x5632, .f32⟩
  | .hbm, ⟨51, _⟩ => ⟨S2x8192x5632, .f32⟩
  | .hbm, ⟨52, _⟩ => ⟨S2x8192x5632, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S_, .f32⟩
  | .hbm, ⟨58, _⟩ => ⟨S2x8192x2816, .f32⟩
  | .hbm, ⟨59, _⟩ => ⟨S2x8192x2816, .f32⟩
  | .hbm, ⟨60, _⟩ => ⟨S_, .f32⟩
  | .hbm, ⟨61, _⟩ => ⟨S2x8192x2816, .f32⟩
  | .hbm, ⟨62, _⟩ => ⟨S2x8192x2816, .f32⟩
  | .hbm, ⟨63, _⟩ => ⟨S2x8192x2816, .f32⟩
  | .hbm, ⟨64, _⟩ => ⟨S2x8192x2816, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S_, .f32⟩
  | .hbm, ⟨69, _⟩ => ⟨S2x8192, .f32⟩
  | .hbm, ⟨70, _⟩ => ⟨S2x8192x1, .f32⟩
  | .hbm, ⟨71, _⟩ => ⟨S_, .f32⟩
  | .hbm, ⟨72, _⟩ => ⟨S2x8192x1, .f32⟩
  | .hbm, ⟨73, _⟩ => ⟨S2x8192x1, .f32⟩
  | .hbm, ⟨74, _⟩ => ⟨S_, .f32⟩
  | .hbm, ⟨75, _⟩ => ⟨S2x8192x1, .f32⟩
  | .hbm, ⟨76, _⟩ => ⟨S2x8192x1, .f32⟩
  | .hbm, ⟨77, _⟩ => ⟨S2x8192x1, .f32⟩
  | .hbm, ⟨78, _⟩ => ⟨S2x8192x1024, .f32⟩
  | .hbm, ⟨79, _⟩ => ⟨S2x8192x1024, .f32⟩
  | .hbm, ⟨80, _⟩ => ⟨S1x1x1024, .f32⟩
  | .hbm, ⟨81, _⟩ => ⟨S2x8192x1024, .f32⟩
  | .hbm, ⟨82, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Proof.FfnSpec.lean ====
module
public import Idealize.ShloMosaic.Lib.Pointwise
@[expose] public section
/-!
The ConvFFN sublayer as a function of its argument arrays, entry by entry, on extended reals. Nothing here refers to a
program: the modules about the kernel and about the reference both show their results equal to these functions.
-/
noncomputable section
open Idealize.ShloMosaic
namespace Cert.FfnSpec

/-- The residual stream: 2 sequences of 8192 rows of 1024 channels. -/
abbrev Arr3 := (⟨3, ![2, 8192, 1024]⟩ : Shape).Idx → EReal
/-- A vector over the 1024 channels. -/
abbrev Vec1024 := (⟨1, ![1024]⟩ : Shape).Idx → EReal
/-- The up projection. -/
abbrev MatUp := (⟨2, ![1024, 5632]⟩ : Shape).Idx → EReal
/-- The three taps of the depthwise convolution. -/
abbrev MatDw := (⟨2, ![3, 5632]⟩ : Shape).Idx → EReal
/-- The bias of the depthwise convolution. -/
abbrev VecDw := (⟨1, ![5632]⟩ : Shape).Idx → EReal
/-- The down projection. -/
abbrev MatDown := (⟨2, ![2816, 1024]⟩ : Shape).Idx → EReal

/-- The root mean square scale of a row `f` of 1024 entries: one over the square root of the mean of the squares plus
    the small constant. -/
def rscale (f : Fin 1024 → EReal) : EReal :=
  Ideal.rsqrt (Ideal.div (∑ k : Fin 1024, f k * f k) (Ideal.ofBits .f32 0x44800000#32) + Ideal.ofBits .f32 0x358637BD#32)

/-- Row `r` of sequence `b` of the residual stream, normalised and scaled by `A1`, at channel `k`. -/
def normAt (A0 : Arr3) (A1 : Vec1024) (b : Fin 2) (r : Fin 8192) (k : Fin 1024) : EReal :=
  A0 (ix3 b r k) * rscale (fun k' => A0 (ix3 b r k')) * A1 (ix1 k)

/-- The up projection of row `R` at column `col`; zero at row numbers past the sequence's end. -/
def zrow (A0 : Arr3) (A1 : Vec1024) (A2 : MatUp) (b : Fin 2) (R : ℕ) (col : Fin 5632) : EReal :=
  if h : R < 8192 then ∑ k : Fin 1024, normAt A0 A1 b ⟨R, h⟩ k * A2 (ix2 k col) else 0

/-- The up projection `s` rows earlier; zero before the sequence's first row. -/
def zback (A0 : Arr3) (A1 : Vec1024) (A2 : MatUp) (b : Fin 2) (s R : ℕ) (col : Fin 5632) : EReal :=
  if s ≤ R then zrow A0 A1 A2 b (R - s) col else 0

/-- The causal depthwise convolution with three taps and its bias, at row `R` and column `col`. -/
def convAt (A0 : Arr3) (A1 : Vec1024) (A2 : MatUp) (A3 : MatDw) (A4 : VecDw) (b : Fin 2) (R : ℕ) (col : Fin 5632) : EReal :=
  zrow A0 A1 A2 b R col * A3 (ix2 2 col) + A4 (ix1 col) + zback A0 A1 A2 b 1 R col * A3 (ix2 1 col)
    + zback A0 A1 A2 b 2 R col * A3 (ix2 0 col)

/-- The gated activation at hidden channel `f`: the second half of the columns gates the first. -/
def actAt (A0 : Arr3) (A1 : Vec1024) (A2 : MatUp) (A3 : MatDw) (A4 : VecDw) (b : Fin 2) (R : ℕ) (f : Fin 2816) : EReal :=
  convAt A0 A1 A2 A3 A4 b R ⟨2816 + f, by omega⟩ * Ideal.logistic (convAt A0 A1 A2 A3 A4 b R ⟨2816 + f, by omega⟩)
    * convAt A0 A1 A2 A3 A4 b R ⟨f, by omega⟩

/-- The sublayer's output: the residual stream plus the down projection of the gated activation. -/
def outAt (A0 : Arr3) (A1 : Vec1024) (A2 : MatUp) (A3 : MatDw) (A4 : VecDw) (A5 : MatDown) (b : Fin 2) (r : Fin 8192)
    (j : Fin 1024) : EReal :=
  A0 (ix3 b r j) + ∑ f : Fin 2816, actAt A0 A1 A2 A3 A4 b r f * A5 (ix2 f j)

/-- The model's last normalisation of the sublayer's output, scaled by `A6`. -/
def lastAt (A0 : Arr3) (A1 : Vec1024) (A2 : MatUp) (A3 : MatDw) (A4 : VecDw) (A5 : MatDown) (A6 : Vec1024) (b : Fin 2)
    (r : Fin 8192) (j : Fin 1024) : EReal :=
  outAt A0 A1 A2 A3 A4 A5 b r j * rscale (fun j' => outAt A0 A1 A2 A3 A4 A5 b r j') * A6 (ix1 j)

end Cert.FfnSpec
end
-- ==== Proof.FfnPay.lean ====
/- The kernel's column blocks, entry by entry: the up projection, the shifted rows, the convolution and the activation. -/
module
public import proofs.«01_k».proof.Proof.Gen.FfnIdeal.Value
public import proofs.«01_k».proof.Proof.FfnSpec
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.FfnIdeal.FfnValue
open Cert.FfnIdeal Cert.FfnIdeal.Gen
variable (m : (ℓ : Loc nD τ sig) → Buf (Elt Ideal) ℓ)

open Cert.FfnSpec

/-- The normalised and scaled row block, at a row and a channel. -/
theorem hn_at (x : FVec Ideal S1x512x1024 .f32) (g : FVec Ideal S1x1024 .f32) (r : Fin 512) (k : Fin 1024) :
    k0_pay4 (F := Ideal) x g (ix2 r k) = x (ix3 0 r k) * rscale (fun k' => x (ix3 0 r k')) * g (ix2 0 k) := by
  pointwise [k0_pay4, k0_pay3, rscale]

/-- One column block of the up projection, at a row and a column: the sum of the products over the channels. -/
theorem z_at (hn : FVec Ideal S512x1024 .bf16) (w : FVec Ideal S1024x256 .bf16) (r : Fin 512) (l : Fin 256) :
    k0_pay15 (F := Ideal) hn w (ix2 r l) = ∑ k : Fin 1024, hn (ix2 r k) * w (ix2 k l) := by
  pointwise [k0_pay15]

/-- Comparing a row number below eight with a shift below three is the comparison of the numbers. -/
theorem slt_at : ∀ (s : Fin 3) (r : Fin 8), IntOp.cmpi CmpIPredicate.slt (BitVec.ofNat 32 (r : ℕ)) (BitVec.ofNat 32 (s : ℕ))
    = if (r : ℕ) < s then 1#1 else 0#1 := by decide +kernel

/-- The rows a tile shifts in. -/
theorem shift_at (A0 : Arr3) (A1 : Vec1024) (A2 : MatUp) (b : Fin 2) (q : ℕ) (col : Fin 5632)
    (z : Fin 512 → EReal) (p : Fin 8 → EReal) (r : Fin 512)
    (hz : ∀ r : Fin 512, z r = zrow A0 A1 A2 b (512 * q + r) col)
    (hp : ∀ i : Fin 8, p i = zback A0 A1 A2 b 8 (512 * q + i) col) (s : ℕ) (hs : 1 ≤ s) (hs2 : s ≤ 2) (w : BitVec 32)
    (hw : w = BitVec.ofNat 32 s) (h1 : ((r : ℕ) + 8 - s) % 8 < 8) (h2 : ((r : ℕ) + 512 - s) % 512 < 512) (h3 : (8 + ((r : ℕ) - 8) + 512 - s) % 512 < 512) :
    (if h : (r : ℕ) < 8 then
            Scalar.select (IntOp.cmpi CmpIPredicate.slt (BitVec.ofNat 32 (r : ℕ)) w) (p ⟨((r : ℕ) + 8 - s) % 8, h1⟩)
              (z ⟨((r : ℕ) + 512 - s) % 512, h2⟩)
          else z ⟨(8 + ((r : ℕ) - 8) + 512 - s) % 512, h3⟩) = zback A0 A1 A2 b s (512 * q + r) col := by
  subst hw
  split
  · next h =>
    have hc := slt_at ⟨s, by omega⟩ ⟨r, h⟩
    simp only at hc
    rw [hc]
    by_cases hrs : (r : ℕ) < s
    · rw [if_pos hrs]
      show p _ = _
      rw [hp]
      unfold zback
      simp only
      have e : (r + 8 - s) % 8 = r + 8 - s := by omega
      rw [e]
      by_cases hq : q = 0
      · subst hq; rw [if_neg (by omega), if_neg (by omega)]
      · rw [if_pos (by omega), if_pos (by omega)]; congr 1; omega
    · rw [if_neg hrs]
      show z _ = _
      rw [hz]
      unfold zback
      rw [if_pos (by omega)]; congr 1; simp only; omega
  · next h =>
    rw [hz]
    unfold zback
    rw [if_pos (by omega)]; congr 1; simp only; omega

/-- One column block of the convolution, at a row and a column, when its operands are the up projection, the eight rows before it, the taps and the bias. -/
theorem conv_at (A0 : Arr3) (A1 : Vec1024) (A2 : MatUp) (A3 : MatDw) (A4 : VecDw) (b : Fin 2) (q : ℕ) (col : Fin 5632)
    (z : FVec Ideal S512x256 .f32) (p : FVec Ideal S1x8x256 .f32) (w : FVec Ideal S3x256 .f32) (bb : FVec Ideal S1x256 .f32) (r : Fin 512) (l : Fin 256)
    (hz : ∀ r : Fin 512, z (ix2 r l) = zrow A0 A1 A2 b (512 * q + r) col)
    (hp : ∀ i : Fin 8, p (ix3 0 i l) = zback A0 A1 A2 b 8 (512 * q + i) col)
    (hw : ∀ k : Fin 3, w (ix2 k l) = A3 (ix2 k col)) (hb : bb (ix2 0 l) = A4 (ix1 col)) :
    k0_pay19 (F := Ideal) (iota Kind.tc S8x256 32 [0] iota_S8x256_d0_w32) z (k0_pay16 p) w bb (ix2 r l)
      = convAt A0 A1 A2 A3 A4 b (512 * q + r) col := by
  pointwise [k0_pay19, k0_pay16]
  exact Ideal.add_congr (Ideal.add_congr (Ideal.add_congr (Ideal.mul_congr (hz r) (hw 2)) hb)
      (Ideal.mul_congr (shift_at A0 A1 A2 b q col (fun r => z (ix2 r l)) (fun i => p (ix3 0 i l)) r hz hp 1 (by decide) (by decide) _ rfl (by omega) (by omega) (by omega)) (hw 1)))
    (Ideal.mul_congr (shift_at A0 A1 A2 b q col (fun r => z (ix2 r l)) (fun i => p (ix3 0 i l)) r hz hp 2 (by decide) (by decide) _ rfl (by omega) (by omega) (by omega)) (hw 0))

/-- One column block of the activation, at a row and a column, when its two halves hold the operands of columns `c1` and `c2`. -/
theorem act_at (A0 : Arr3) (A1 : Vec1024) (A2 : MatUp) (A3 : MatDw) (A4 : VecDw) (b : Fin 2) (q : ℕ) (f : Fin 2816) (c1 c2 : Fin 5632)
    (hn : FVec Ideal S512x1024 .bf16) (w1 w2 : FVec Ideal S1024x256 .bf16)
    (p1 p2 : FVec Ideal S1x8x256 .f32) (d1 d2 : FVec Ideal S3x256 .f32) (b1 b2 : FVec Ideal S1x256 .f32) (r : Fin 512) (l : Fin 256)
    (hc1 : (c1 : ℕ) = f) (hc2 : (c2 : ℕ) = 2816 + f)
    (hz1 : ∀ r : Fin 512, ∑ k : Fin 1024, hn (ix2 r k) * w1 (ix2 k l) = zrow A0 A1 A2 b (512 * q + r) c1)
    (hp1 : ∀ i : Fin 8, p1 (ix3 0 i l) = zback A0 A1 A2 b 8 (512 * q + i) c1)
    (hw1 : ∀ k : Fin 3, d1 (ix2 k l) = A3 (ix2 k c1)) (hb1 : b1 (ix2 0 l) = A4 (ix1 c1))
    (hz2 : ∀ r : Fin 512, ∑ k : Fin 1024, hn (ix2 r k) * w2 (ix2 k l) = zrow A0 A1 A2 b (512 * q + r) c2)
    (hp2 : ∀ i : Fin 8, p2 (ix3 0 i l) = zback A0 A1 A2 b 8 (512 * q + i) c2)
    (hw2 : ∀ k : Fin 3, d2 (ix2 k l) = A3 (ix2 k c2)) (hb2 : b2 (ix2 0 l) = A4 (ix1 c2)) :
    k0_pay24 (F := Ideal) (iota Kind.tc S8x256 32 [0] iota_S8x256_d0_w32)
      (k0_pay19 (iota Kind.tc S8x256 32 [0] iota_S8x256_d0_w32) (k0_pay15 hn w1) (k0_pay16 p1) d1 b1)
      (k0_pay20 hn w2) (k0_pay21 p2) d2 b2 (ix2 r l)
      = actAt A0 A1 A2 A3 A4 b (512 * q + (r : ℕ)) f := by
  have e1 := conv_at A0 A1 A2 A3 A4 b q c1 (k0_pay15 hn w1) p1 d1 b1 r l (fun r => (z_at hn w1 r l).trans (hz1 r)) hp1 hw1 hb1
  have e2 := conv_at A0 A1 A2 A3 A4 b q c2 (k0_pay15 hn w2) p2 d2 b2 r l (fun r => (z_at hn w2 r l).trans (hz2 r)) hp2 hw2 hb2
  have g : k0_pay24 (F := Ideal) (iota Kind.tc S8x256 32 [0] iota_S8x256_d0_w32)
      (k0_pay19 (iota Kind.tc S8x256 32 [0] iota_S8x256_d0_w32) (k0_pay15 hn w1) (k0_pay16 p1) d1 b1)
      (k0_pay20 hn w2) (k0_pay21 p2) d2 b2 (ix2 r l) = (let y := k0_pay19 (F := Ideal) (iota Kind.tc S8x256 32 [0] iota_S8x256_d0_w32) (k0_pay15 hn w2) (k0_pay16 p2) d2 b2 (ix2 r l)
        y * Ideal.logistic y) * k0_pay19 (F := Ideal) (iota Kind.tc S8x256 32 [0] iota_S8x256_d0_w32) (k0_pay15 hn w1) (k0_pay16 p1) d1 b1 (ix2 r l) := by
    pointwise [k0_pay24, k0_pay19, k0_pay15, k0_pay16, k0_pay20, k0_pay21]
  rw [g]
  simp only
  rw [e1, e2]
  obtain ⟨c1, hc1'⟩ := c1
  obtain ⟨c2, hc2'⟩ := c2
  subst hc1 hc2
  rfl

end Cert.FfnIdeal.FfnValue
end
-- ==== Proof.FfnTiles.lean ====
/- The kernel's stores of one grid point, for a general slot and a general column block: the carried rows and the activations. -/
module
public import proofs.«01_k».proof.Proof.Gen.FfnIdeal.Value
public import proofs.«01_k».proof.Proof.FfnPay
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.FfnIdeal.FfnValue
open Cert.FfnIdeal Cert.FfnIdeal.Gen

open Cert.FfnSpec

/-- What a list of stored pieces holds at an index that one of them covers, when every piece that covers it has the value there. -/
theorem canon_of_mem {S : Shape} {e : EltTy} (L : List (View.Piece (Elt Ideal) S e)) (y : S.Idx) (v : Elt Ideal e)
    (off size : Fin S.rank → ℕ) (inb : ∀ a, off a + size a ≤ S.size a) (w : (Rect.unit off size inb).shape.Idx → Elt Ideal e)
    (hm : (⟨Rect.unit off size inb, w⟩ : View.Piece (Elt Ideal) S e) ∈ L) (hy : ∀ a, off a ≤ y a ∧ (y a : ℕ) < off a + size a)
    (h : View.AllAt L y v) : View.canon L y = v :=
  View.canon_eq_of_allAt L y v ⟨⟨Rect.unit off size inb, w⟩, hm, (Rect.mem_set_unit (inb := inb)).mpr hy⟩ h

/-- Stores over earlier stores, read where one of the later ones covers: the earlier ones do not enter. -/
theorem canon_append_covered {S : Shape} {e : EltTy} (L L' : List (View.Piece (Elt Ideal) S e)) (y : S.Idx)
    (hc : ∃ p ∈ L, y ∈ p.1.set) : View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine ih ?_
      obtain ⟨q, hq, hyq⟩ := hc
      rcases List.mem_cons.mp hq with rfl | hq'
      · exact absurd hyq hm
      · exact ⟨q, hq', hyq⟩

/-- The column at which the block of carried slot `n` starts: even slots lie in the first half of the columns. -/
def slotCol (n : ℕ) : ℕ := 2816 * (n % 2) + 256 * (n / 2)

theorem inb_up (n : ℕ) (h : n < 22) : ∀ a, (![0, slotCol n] : Fin 2 → ℕ) a + (![1024, 256] : Fin 2 → ℕ) a ≤ S1024x5632.size a := by
  intro a; fin_cases a
  · exact Nat.le_refl 1024
  · show slotCol n + 256 ≤ 5632; unfold slotCol; omega
theorem inb_tap (n : ℕ) (h : n < 22) : ∀ a, (![0, slotCol n] : Fin 2 → ℕ) a + (![3, 256] : Fin 2 → ℕ) a ≤ S3x5632.size a := by
  intro a; fin_cases a
  · exact Nat.le_refl 3
  · show slotCol n + 256 ≤ 5632; unfold slotCol; omega
theorem inb_bias (n : ℕ) (h : n < 22) : ∀ a, (![0, slotCol n] : Fin 2 → ℕ) a + (![1, 256] : Fin 2 → ℕ) a ≤ S1x5632.size a := by
  intro a; fin_cases a
  · exact Nat.le_refl 1
  · show slotCol n + 256 ≤ 5632; unfold slotCol; omega
theorem inb_slot (n : ℕ) (h : n < 22) : ∀ a, (![n, 0, 0] : Fin 3 → ℕ) a + (![1, 8, 256] : Fin 3 → ℕ) a ≤ S22x8x256.size a := by
  intro a; fin_cases a
  · show n + 1 ≤ 22; omega
  · exact Nat.le_refl 8
  · exact Nat.le_refl 256
theorem inb_act (u : ℕ) (h : u < 11) : ∀ a, (![0, 256 * u] : Fin 2 → ℕ) a + (![512, 256] : Fin 2 → ℕ) a ≤ S512x2816.size a := by
  intro a; fin_cases a
  · exact Nat.le_refl 512
  · show 256 * u + 256 ≤ 2816; omega

/-- The columns of slot `n` of the up projection's matrix, of the taps and of the bias, and slot `n` of the carried rows. -/
abbrev upOf (W : FVec Ideal S1024x5632 .bf16) (n : ℕ) (h : n < 22) : FVec Ideal S1024x256 .bf16 :=
  View.ld (Val := Elt Ideal) (S := S1024x5632) (e' := .bf16) W (Rect.unit ![0, slotCol n] ![1024, 256] (inb_up n h))
abbrev tapOf (D : FVec Ideal S3x5632 .f32) (n : ℕ) (h : n < 22) : FVec Ideal S3x256 .f32 :=
  View.ld (Val := Elt Ideal) (S := S3x5632) (e' := .f32) D (Rect.unit ![0, slotCol n] ![3, 256] (inb_tap n h))
abbrev biasOf (B : FVec Ideal S1x5632 .f32) (n : ℕ) (h : n < 22) : FVec Ideal S1x256 .f32 :=
  View.ld (Val := Elt Ideal) (S := S1x5632) (e' := .f32) B (Rect.unit ![0, slotCol n] ![1, 256] (inb_bias n h))
abbrev slotOf (P : FVec Ideal S22x8x256 .f32) (n : ℕ) (h : n < 22) : FVec Ideal S1x8x256 .f32 :=
  View.ld (Val := Elt Ideal) (S := S22x8x256) (e' := .f32) P (Rect.unit ![n, 0, 0] ![1, 8, 256] (inb_slot n h))

/-- The operands of column block `n`, at column `l` of the block, are those of column `slotCol n + l` of the whole arrays. -/
theorem up_at (W : FVec Ideal S1024x5632 .bf16) (n : ℕ) (h : n < 22) (k : Fin 1024) (l : Fin 256) (col : Fin 5632)
    (hcol : (col : ℕ) = slotCol n + l) : upOf W n h (ix2 k l) = W (ix2 k col) := by
  pointwise [upOf]
  exact congrArg (fun q => W (ix2 k q)) (Fin.ext (by dsimp only; omega))
theorem tap_at (D : FVec Ideal S3x5632 .f32) (n : ℕ) (h : n < 22) (k : Fin 3) (l : Fin 256) (col : Fin 5632)
    (hcol : (col : ℕ) = slotCol n + l) : tapOf D n h (ix2 k l) = D (ix2 k col) := by
  pointwise [tapOf]
  exact congrArg (fun q => D (ix2 k q)) (Fin.ext (by dsimp only; omega))
theorem bias_at (B : FVec Ideal S1x5632 .f32) (n : ℕ) (h : n < 22) (l : Fin 256) (col : Fin 5632)
    (hcol : (col : ℕ) = slotCol n + l) : biasOf B n h (ix2 0 l) = B (ix2 0 col) := by
  pointwise [biasOf]
  exact congrArg (fun q => B (ix2 0 q)) (Fin.ext (by dsimp only; omega))
theorem slot_at (P : FVec Ideal S22x8x256 .f32) (n : ℕ) (h : n < 22) (i : Fin 8) (l : Fin 256) :
    slotOf P n h (ix3 0 i l) = P (ix3 ⟨n, h⟩ i l) := by
  pointwise [slotOf]

/-- The rows stored into carried slot `n`: the last eight of its column block of the up projection. -/
abbrev tail (hn : FVec Ideal S512x1024 .bf16) (W : FVec Ideal S1024x5632 .bf16) (n : ℕ) (h : n < 22) : View.Piece (Elt Ideal) S22x8x256 .f32 :=
  ⟨Rect.unit ![n, 0, 0] ![1, 8, 256] (inb_slot n h), k0_pay12 (F := Ideal) hn (upOf W n h)⟩

/-- The stores into the first `k` carried slots, the last one first. -/
def tails (hn : FVec Ideal S512x1024 .bf16) (W : FVec Ideal S1024x5632 .bf16) : (k : ℕ) → k ≤ 22 → List (View.Piece (Elt Ideal) S22x8x256 .f32)
  | 0, _ => []
  | k + 1, h => tail hn W k h :: tails hn W k (Nat.le_of_succ_le h)

theorem mem_tails (hn : FVec Ideal S512x1024 .bf16) (W : FVec Ideal S1024x5632 .bf16) (p : View.Piece (Elt Ideal) S22x8x256 .f32) :
    ∀ (k : ℕ) (hk : k ≤ 22), p ∈ tails hn W k hk ↔ ∃ (n : ℕ) (h : n < k), p = tail hn W n (by omega)
  | 0, _ => ⟨fun h => absurd h List.not_mem_nil, fun ⟨_, h, _⟩ => absurd h (Nat.not_lt_zero _)⟩
  | k + 1, hk => by
    rw [tails, List.mem_cons, mem_tails hn W p k]
    constructor
    · rintro (rfl | ⟨n, h, rfl⟩)
      · exact ⟨k, by omega, rfl⟩
      · exact ⟨n, by omega, rfl⟩
    · rintro ⟨n, h, rfl⟩
      by_cases e : n = k
      · subst e; exact Or.inl rfl
      · exact Or.inr ⟨n, by omega, rfl⟩

/-- What the carried scratch holds after the 22 stores, whatever was stored before them: the last eight rows of each column block of the up projection. -/
theorem tails_at (hn : FVec Ideal S512x1024 .bf16) (W : FVec Ideal S1024x5632 .bf16) (L : List (View.Piece (Elt Ideal) S22x8x256 .f32)) (n : Fin 22) (i : Fin 8) (l : Fin 256) (col : Fin 5632)
    (hcol : (col : ℕ) = slotCol n + l) : View.canon (tails hn W 22 (Nat.le_refl 22) ++ L) (ix3 n i l)
      = ∑ k : Fin 1024, (show EReal from hn (ix2 ⟨504 + i, by omega⟩ k)) * (show EReal from W (ix2 k col)) := by
  have hm := (mem_tails hn W _ 22 (Nat.le_refl 22)).mpr ⟨n, n.isLt, rfl⟩
  have hy : ∀ a, (![n.val, 0, 0] : Fin 3 → ℕ) a ≤ ix3 n i l a ∧ (ix3 n i l a : ℕ) < (![n.val, 0, 0] : Fin 3 → ℕ) a + (![1, 8, 256] : Fin 3 → ℕ) a := by
    intro a; fin_cases a
    · exact ⟨Nat.le_refl _, Nat.lt_succ_self _⟩
    · exact ⟨Nat.zero_le _, by show (i : ℕ) < 0 + 8; omega⟩
    · exact ⟨Nat.zero_le _, by show (l : ℕ) < 0 + 256; omega⟩
  rw [canon_append_covered _ _ _ ⟨_, hm, (Rect.mem_set_unit (inb := inb_slot n n.isLt)).mpr hy⟩]
  refine canon_of_mem _ _ _ _ _ _ _ hm hy ?_
  · intro p hp x hx
    obtain ⟨n', h', rfl⟩ := (mem_tails hn W p 22 _).mp hp
    idx_vars x
    have e0 : n' + 1 * (x0 : ℕ) = n := congrArg (fun y : S22x8x256.Idx => (y 0 : ℕ)) hx
    have e1 : 0 + 1 * (x1 : ℕ) = i := congrArg (fun y : S22x8x256.Idx => (y 1 : ℕ)) hx
    have e2 : 0 + 1 * (x2 : ℕ) = l := congrArg (fun y : S22x8x256.Idx => (y 2 : ℕ)) hx
    have hn' : n' = n := by omega
    subst hn'
    obtain rfl : x1 = i := Fin.ext (by omega)
    obtain rfl : x2 = l := Fin.ext (by omega)
    pointwise [k0_pay12, k0_pay10]
    refine Finset.sum_congr rfl fun k _ => Ideal.mul_congr (congrArg hn (congrArg (fun r => ix2 r k) (Fin.ext (by dsimp only)))) (up_at W _ _ k _ col hcol)

/-- The activations stored into column block `u`: the block's convolution times its gate, which is the other half's convolution. -/
abbrev act (hn : FVec Ideal S512x1024 .bf16) (W : FVec Ideal S1024x5632 .bf16) (D : FVec Ideal S3x5632 .f32) (B : FVec Ideal S1x5632 .f32)
    (P : FVec Ideal S22x8x256 .f32) (u : ℕ) (h : u < 11) : View.Piece (Elt Ideal) S512x2816 .bf16 :=
  ⟨Rect.unit ![0, 256 * u] ![512, 256] (inb_act u h),
    k0_pay24 (F := Ideal) (iota Kind.tc S8x256 32 [0] iota_S8x256_d0_w32)
      (k0_pay19 (iota Kind.tc S8x256 32 [0] iota_S8x256_d0_w32) (k0_pay15 hn (upOf W (2 * u) (by omega)))
        (k0_pay16 (slotOf P (2 * u) (by omega))) (tapOf D (2 * u) (by omega)) (biasOf B (2 * u) (by omega)))
      (k0_pay20 hn (upOf W (2 * u + 1) (by omega))) (k0_pay21 (slotOf P (2 * u + 1) (by omega)))
      (tapOf D (2 * u + 1) (by omega)) (biasOf B (2 * u + 1) (by omega))⟩

/-- The stores of the first `k` column blocks of activations, the last one first. -/
def acts (hn : FVec Ideal S512x1024 .bf16) (W : FVec Ideal S1024x5632 .bf16) (D : FVec Ideal S3x5632 .f32) (B : FVec Ideal S1x5632 .f32)
    (P : FVec Ideal S22x8x256 .f32) : (k : ℕ) → k ≤ 11 → List (View.Piece (Elt Ideal) S512x2816 .bf16)
  | 0, _ => []
  | k + 1, h => act hn W D B P k h :: acts hn W D B P k (Nat.le_of_succ_le h)

theorem mem_acts (hn : FVec Ideal S512x1024 .bf16) (W : FVec Ideal S1024x5632 .bf16) (D : FVec Ideal S3x5632 .f32) (B : FVec Ideal S1x5632 .f32)
    (P : FVec Ideal S22x8x256 .f32) (p : View.Piece (Elt Ideal) S512x2816 .bf16) :
    ∀ (k : ℕ) (hk : k ≤ 11), p ∈ acts hn W D B P k hk ↔ ∃ (u : ℕ) (h : u < k), p = act hn W D B P u (by omega)
  | 0, _ => ⟨fun h => absurd h List.not_mem_nil, fun ⟨_, h, _⟩ => absurd h (Nat.not_lt_zero _)⟩
  | k + 1, hk => by
    rw [acts, List.mem_cons, mem_acts hn W D B P p k]
    constructor
    · rintro (rfl | ⟨n, h, rfl⟩)
      · exact ⟨k, by omega, rfl⟩
      · exact ⟨n, by omega, rfl⟩
    · rintro ⟨n, h, rfl⟩
      by_cases e : n = k
      · subst e; exact Or.inl rfl
      · exact Or.inr ⟨n, by omega, rfl⟩

/-- What the activations hold after the eleven stores of a grid point, when the operands are those of row block `q` of
    sequence `b` and the carried rows `P` are the eight before it. -/
theorem acts_at (A0 : Arr3) (A1 : Vec1024) (A2 : MatUp) (A3 : MatDw) (A4 : VecDw) (b : Fin 2) (q : ℕ)
    (hn : FVec Ideal S512x1024 .bf16) (W : FVec Ideal S1024x5632 .bf16) (D : FVec Ideal S3x5632 .f32) (B : FVec Ideal S1x5632 .f32)
    (P : FVec Ideal S22x8x256 .f32)
    (hZ : ∀ (r : Fin 512) (col : Fin 5632), ∑ k : Fin 1024, (show EReal from hn (ix2 r k)) * (show EReal from W (ix2 k col)) = zrow A0 A1 A2 b (512 * q + r) col)
    (hP : ∀ (n : Fin 22) (i : Fin 8) (l : Fin 256) (col : Fin 5632), (col : ℕ) = slotCol n + l → P (ix3 n i l) = zback A0 A1 A2 b 8 (512 * q + i) col)
    (hD : ∀ (k : Fin 3) (col : Fin 5632), D (ix2 k col) = A3 (ix2 k col)) (hB : ∀ col : Fin 5632, B (ix2 0 col) = A4 (ix1 col))
    (r : Fin 512) (f : Fin 2816) :
    View.canon (acts hn W D B P 11 (Nat.le_refl 11)) (ix2 r f) = actAt A0 A1 A2 A3 A4 b (512 * q + r) f := by
  refine canon_of_mem _ _ _ _ _ _ _ ((mem_acts hn W D B P _ 11 _).mpr ⟨f / 256, by omega, rfl⟩) ?_ ?_
  · intro a; fin_cases a
    · exact ⟨Nat.zero_le _, by show (r : ℕ) < 0 + 512; omega⟩
    · exact ⟨by show 256 * ((f : ℕ) / 256) ≤ f; omega, by show (f : ℕ) < 256 * ((f : ℕ) / 256) + 256; omega⟩
  · intro p hp x hx
    obtain ⟨u, h', rfl⟩ := (mem_acts hn W D B P p 11 _).mp hp
    idx_vars x
    have e0 : 0 + 1 * (x0 : ℕ) = r := congrArg (fun y : S512x2816.Idx => (y 0 : ℕ)) hx
    have e1 : 256 * u + 1 * (x1 : ℕ) = f := congrArg (fun y : S512x2816.Idx => (y 1 : ℕ)) hx
    obtain rfl : x0 = r := Fin.ext (by omega)
    have hc1 : f.val = slotCol (2 * u) + x1 := by unfold slotCol; omega
    have hc2 : 2816 + f.val = slotCol (2 * u + 1) + x1 := by unfold slotCol; omega
    exact act_at A0 A1 A2 A3 A4 b q f ⟨f, by omega⟩ ⟨2816 + f, by omega⟩ hn _ _ _ _ _ _ _ _ x0 x1 rfl rfl
      (fun r => (Finset.sum_congr rfl fun k _ => Ideal.mul_congr rfl (up_at W _ _ k x1 _ hc1)).trans (hZ r _))
      (fun i => (slot_at P _ _ i x1).trans (hP _ i x1 _ hc1)) (fun k => (tap_at D _ _ k x1 _ hc1).trans (hD k _))
      ((bias_at B _ _ x1 _ hc1).trans (hB _))
      (fun r => (Finset.sum_congr rfl fun k _ => Ideal.mul_congr rfl (up_at W _ _ k x1 _ hc2)).trans (hZ r _))
      (fun i => (slot_at P _ _ i x1).trans (hP _ i x1 _ hc2)) (fun k => (tap_at D _ _ k x1 _ hc2).trans (hD k _))
      ((bias_at B _ _ x1 _ hc2).trans (hB _))

end Cert.FfnIdeal.FfnValue
end
-- ==== Proof.FfnOut.lean ====
/- What each grid point leaves in the output block. -/
module
public import proofs.«01_k».proof.Proof.Gen.FfnIdeal.Value
public import proofs.«01_k».proof.Proof.FfnValue
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.FfnIdeal.FfnValue
open Cert.FfnIdeal Cert.FfnIdeal.Gen
variable (m : (ℓ : Loc nD τ sig) → Buf (Elt Ideal) ℓ)

open Cert.FfnSpec

set_option maxHeartbeats 4000000 in
/-- What point `t` leaves in the output tile: the sublayer's rows `512 * (t % 16) …` of sequence `t / 16`. -/
theorem point (c : Dev nD) (t : Fin cfg0.N) (r : Fin 512) (j : Fin 1024) :
    (outsAt0 m c t.val t.isLt).1 (ix3 0 r j)
      = outAt (a0 m c) (a1 m c) (a2 m c) (a3 m c) (a4 m c) (a5 m c) (seq t) ⟨512 * (t.val % 16) + r, by omega⟩ j := by
  have key := fun P hP => acts_at (a0 m c) (a1 m c) (a2 m c) (a3 m c) (a4 m c) (seq t) (t.val % 16)
    (k0_pay4 (F := Ideal) (iblk m c 0 t) (iblk m c 1 t)) (iblk m c 2 t) (iblk m c 3 t) (iblk m c 4 t) P (zblk m c t) hP (blk3 m c t) (blk4 m c t)
  unfold outAt
  by_cases h : t.val % 16 = 0
  · rw [outsAt0_A m c t h]
    frame_open
    simp (disch := decide) only [↓ View.readCov_skip, ↓ View.readCov_cons_toLoadRect, ↓ View.readCov_fill]
    frame_out
    have hPP : ∀ (n : Fin 22) (i : Fin 8) (l : Fin 256) (col : Fin 5632), (col : ℕ) = slotCol n + l
        → k0_pay2 (F := Ideal) (ix3 n i l) = zback (a0 m c) (a1 m c) (a2 m c) (seq t) 8 (512 * (t.val % 16) + i) col := by
      intro n i l col hcol
      rw [zback, if_neg (by omega)]
      pointwise [k0_pay2]
    generalize k0_pay2 (F := Ideal) = P at hPP ⊢
    pointwise [k0_pay1, k0_pay125, k0_pay3]
    refine Ideal.add_congr (blk0 m c t r j) (Finset.sum_congr rfl fun f _ => Ideal.mul_congr ?_ (blk5 m c t f j))
    rw [View.readCov_eq_canon_ld _ _ _ (View.cover_of_tiledL _ ![512, 256] (by sl_kernel_rfl))]
    refine (congrFun (View.ld_unit_lit _ _ (fun a => by fin_cases a <;> rfl)) _).trans ?_
    exact key _ hPP r f
  · have hlt : t.val - 1 < cfg0.N := by have := t.isLt; omega
    have hPP : ∀ (n : Fin 22) (i : Fin 8) (l : Fin 256) (col : Fin 5632), (col : ℕ) = slotCol n + l
        → (outsAt0 m c (t.val - 1) hlt).2 (ix3 n i l) = zback (a0 m c) (a1 m c) (a2 m c) (seq t) 8 (512 * (t.val % 16) + i) col := by
      intro n i l col hcol
      rw [zback, if_pos (by omega), carry m c ⟨t.val - 1, hlt⟩ n i l col hcol]
      have e : seq ⟨t.val - 1, hlt⟩ = seq t := Fin.ext (by simp only [seq]; omega)
      rw [e]
      exact congrArg (fun R => zrow (a0 m c) (a1 m c) (a2 m c) (seq t) R col) (by dsimp only; omega)
    rw [outsAt0_B m c t h]
    frame_out
    simp only [read_unread_whole]
    generalize (outsAt0 m c (t.val - 1) hlt).2 = P at hPP ⊢
    pointwise [k0_pay1, k0_pay125, k0_pay3]
    refine Ideal.add_congr (blk0 m c t r j) (Finset.sum_congr rfl fun f _ => Ideal.mul_congr ?_ (blk5 m c t f j))
    rw [View.readCov_eq_canon_ld _ _ _ (View.cover_of_tiledL _ ![512, 256] (by sl_kernel_rfl))]
    refine (congrFun (View.ld_unit_lit _ _ (fun a => by fin_cases a <;> rfl)) _).trans ?_
    exact key _ hPP r f

end Cert.FfnIdeal.FfnValue
end
-- ==== Proof.FfnFinal.lean ====
/- The kernel's result array. -/
module
public import proofs.«01_k».proof.Proof.FfnOut
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.FfnIdeal.FfnValue
open Cert.FfnIdeal Cert.FfnIdeal.Gen Cert.FfnSpec
variable (m : (ℓ : Loc nD τ sig) → Buf (Elt Ideal) ℓ)

/-- The kernel's result array is the sublayer of its argument arrays, at every entry. -/
theorem final (c : Dev nD) : (dats m 0 c).arrAt 7 cfg0.N
    = fun i => outAt (a0 m c) (a1 m c) (a2 m c) (a3 m c) (a4 m c) (a5 m c) (i 0) (i 1) (i 2) := by
  refine (dats m 0 c).arrAt_eq_of_covers 7 _ (by decide +kernel) fun t hf y => ?_
  blk_simp
  rw [after0_7]
  obtain ⟨-, -, -, -, -, -, -, e⟩ := idx0 t
  idx_vars y
  obtain rfl : y0 = 0 := Subsingleton.elim _ _
  refine (point m c t y1 y2).trans ?_
  have e0 : (((View.whole main_v5).slice (win0_7.rect t)).emb (ix3 0 y1 y2) 0) = seq t := Fin.ext (by blk_simp [e]; rfl)
  have e1 : (((View.whole main_v5).slice (win0_7.rect t)).emb (ix3 0 y1 y2) 1) = (⟨512 * (t.val % 16) + y1, by omega⟩ : Fin 8192) := Fin.ext (by blk_simp [e]; dsimp only; omega)
  have e2 : (((View.whole main_v5).slice (win0_7.rect t)).emb (ix3 0 y1 y2) 2) = y2 := Fin.ext (by blk_simp [e])
  rw [e0, e1, e2]

end Cert.FfnIdeal.FfnValue
end
-- ==== Proof.FfnRef.lean ====
/- The reference's result array, entry by entry. -/
module
public import proofs.«01_k».proof.Proof.Gen.FfnRefIdeal.Run
public import proofs.«01_k».proof.Proof.FfnSpec
public import Idealize.ShloMosaic.Lib.Pipeline.ValueKit
public import Idealize.ShloMosaic.Lib.Pointwise
@[expose] public section
set_option maxRecDepth 16384
set_option pp.proofs false
noncomputable section
open Idealize.ShloMosaic Idealize.ShloMosaic.TcCoe Idealize.SL.Sem
namespace Cert.FfnRefIdeal.FfnRefValue
open Cert.FfnRefIdeal Cert.FfnRefIdeal.Gen Cert.FfnSpec
variable (m : (ℓ : Loc nD τ sig) → Buf (Elt Ideal) ℓ)
/-- The argument arrays of a device. -/
abbrev a0 (c : Dev nD) : Arr3 := m ((c : Thread nD τ).loc main_arg0)
abbrev a1 (c : Dev nD) : Vec1024 := m ((c : Thread nD τ).loc main_arg1)
abbrev a2 (c : Dev nD) : MatUp := m ((c : Thread nD τ).loc main_arg2)
abbrev a3 (c : Dev nD) : MatDw := m ((c : Thread nD τ).loc main_arg3)
abbrev a4 (c : Dev nD) : VecDw := m ((c : Thread nD τ).loc main_arg4)
abbrev a5 (c : Dev nD) : MatDown := m ((c : Thread nD τ).loc main_arg5)

/-- The integer zero that pads, as a float, is zero. -/
theorem pad_zero : (FloatOps.sitofp FTy.f32 0#32 : Ideal .f32) = 0 := by
  show ((((0#32 : BitVec 32).toInt : ℤ) : ℝ) : EReal) = 0
  simp

/-- The sum a padded read holds, as the up projection of the row it falls on. -/
theorem sum_at (A0 : Arr3) (A1 : Vec1024) (A2 : MatUp) (b : Fin 2) (R : ℕ) (hR : R < 8192) (col : Fin 5632) :
    (∑ x : Fin 1024, A0 (ix3 b ⟨R, hR⟩ x) * Ideal.rsqrt (Ideal.div (∑ y : Fin 1024, A0 (ix3 b ⟨R, hR⟩ y) * A0 (ix3 b ⟨R, hR⟩ y))
      (Ideal.ofBits .f32 1149239296#32) + Ideal.ofBits .f32 897988541#32) * A1 (ix1 x) * A2 (ix2 x col))
      = zrow A0 A1 A2 b R col := by
  rw [zrow, dif_pos hR]
  rfl

/-- The read of the padded up projection two rows earlier. -/
theorem back2 (A0 : Arr3) (A1 : Vec1024) (A2 : MatUp) (b : Fin 2) (r : Fin 8192) (n : ℕ) (hn : n < 5632) :
    (if h : (2 ≤ (r : ℕ) ∧ (r : ℕ) - 2 < 8192) ∧ n < 5632 then
      ∑ x : Fin 1024, A0 (ix3 b ⟨(r : ℕ) - 2, by omega⟩ x) * Ideal.rsqrt (Ideal.div (∑ y : Fin 1024, A0 (ix3 b ⟨(r : ℕ) - 2, by omega⟩ y) * A0 (ix3 b ⟨(r : ℕ) - 2, by omega⟩ y))
        (Ideal.ofBits .f32 1149239296#32) + Ideal.ofBits .f32 897988541#32) * A1 (ix1 x) * A2 (ix2 x ⟨n, hn⟩)
      else (FloatOps.sitofp FTy.f32 0#32 : Ideal .f32)) = zback A0 A1 A2 b 2 r ⟨n, hn⟩ := by
  rw [zback]
  by_cases h : 2 ≤ (r : ℕ)
  · rw [dif_pos ⟨⟨h, by omega⟩, hn⟩, if_pos h]
    exact sum_at A0 A1 A2 b _ _ _
  · rw [dif_neg (by omega), if_neg h]
    exact pad_zero

/-- The read of the padded up projection one row earlier. -/
theorem back1 (A0 : Arr3) (A1 : Vec1024) (A2 : MatUp) (b : Fin 2) (r : Fin 8192) (n : ℕ) (hn : n < 5632) :
    (if h : (2 ≤ 1 + (r : ℕ) ∧ 1 + (r : ℕ) - 2 < 8192) ∧ n < 5632 then
      ∑ x : Fin 1024, A0 (ix3 b ⟨1 + (r : ℕ) - 2, by omega⟩ x) * Ideal.rsqrt (Ideal.div (∑ y : Fin 1024, A0 (ix3 b ⟨1 + (r : ℕ) - 2, by omega⟩ y) * A0 (ix3 b ⟨1 + (r : ℕ) - 2, by omega⟩ y))
        (Ideal.ofBits .f32 1149239296#32) + Ideal.ofBits .f32 897988541#32) * A1 (ix1 x) * A2 (ix2 x ⟨n, hn⟩)
      else (FloatOps.sitofp FTy.f32 0#32 : Ideal .f32)) = zback A0 A1 A2 b 1 r ⟨n, hn⟩ := by
  rw [zback]
  by_cases h : 2 ≤ 1 + (r : ℕ)
  · rw [dif_pos ⟨⟨h, by omega⟩, hn⟩, if_pos (by omega)]
    refine (sum_at A0 A1 A2 b _ _ _).trans (congrArg (fun R => zrow A0 A1 A2 b R ⟨n, hn⟩) (by omega))
  · rw [dif_neg (by omega), if_neg (by omega)]
    exact pad_zero

/-- The read of the padded up projection at the row itself. -/
theorem back0 (A0 : Arr3) (A1 : Vec1024) (A2 : MatUp) (b : Fin 2) (r : Fin 8192) (n : ℕ) (hn : n < 5632) :
    (if h : n < 5632 then
      ∑ x : Fin 1024, A0 (ix3 b r x) * Ideal.rsqrt (Ideal.div (∑ y : Fin 1024, A0 (ix3 b r y) * A0 (ix3 b r y))
        (Ideal.ofBits .f32 1149239296#32) + Ideal.ofBits .f32 897988541#32) * A1 (ix1 x) * A2 (ix2 x ⟨n, h⟩)
      else (FloatOps.sitofp FTy.f32 0#32 : Ideal .f32)) = zrow A0 A1 A2 b r ⟨n, hn⟩ := by
  rw [dif_pos hn]
  exact sum_at A0 A1 A2 b r r.isLt _

/-- The taps summed in the reference's order are the convolution. -/
theorem taps (A0 : Arr3) (A1 : Vec1024) (A2 : MatUp) (A3 : MatDw) (A4 : VecDw) (b : Fin 2) (R : ℕ) (col : Fin 5632) (z2 z1 z0 : EReal)
    (h2 : z2 = zback A0 A1 A2 b 2 R col) (h1 : z1 = zback A0 A1 A2 b 1 R col) (h0 : z0 = zrow A0 A1 A2 b R col) :
    A3 (ix2 0 col) * z2 + A3 (ix2 1 col) * z1 + A3 (ix2 2 col) * z0 + A4 (ix1 col) = convAt A0 A1 A2 A3 A4 b R col := by
  subst h2 h1 h0
  unfold convAt
  ac_nf

/-- The reference's result, entry by entry, is the sublayer's output. -/
theorem ref_at (c : Dev nD) (b : Fin 2) (r : Fin 8192) (j : Fin 1024) :
    Cert.FfnRefIdeal.Value.res_main_v45 (F := Ideal) m c (ix3 b r j) = outAt (a0 m c) (a1 m c) (a2 m c) (a3 m c) (a4 m c) (a5 m c) b r j := by
  pointwise [Cert.FfnRefIdeal.Value.res_main_v45, outAt, actAt]
  have key : ∀ (n : ℕ) (hn : n < 5632) , _ := fun n hn => taps (a0 m c) (a1 m c) (a2 m c) (a3 m c) (a4 m c) b r ⟨n, hn⟩ _ _ _
    (back2 (a0 m c) (a1 m c) (a2 m c) b r n hn) (back1 (a0 m c) (a1 m c) (a2 m c) b r n hn) (back0 (a0 m c) (a1 m c) (a2 m c) b r n hn)
  refine Ideal.add_congr rfl (Finset.sum_congr rfl fun f _ => Ideal.mul_congr (Ideal.mul_congr ?_ (key f (by omega))) rfl)
  have g := key (2816 + f) (by omega)
  exact Ideal.mul_congr g (congrArg Ideal.logistic g)
end Cert.FfnRefIdeal.FfnRefValue
end
-- ==== Proof.LastPay.lean ====
/- The kernel with the last normalisation: its normalised input rows, the down projection and the last normalisation. -/
module
public import proofs.«01_k».proof.Proof.Gen.LastIdeal.Value
public import proofs.«01_k».proof.Proof.FfnPay
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.LastIdeal.LastValue
open Cert.LastIdeal Cert.LastIdeal.Gen
variable (m : (ℓ : Loc nD τ sig) → Buf (Elt Ideal) ℓ)

open Cert.FfnSpec

/-- The normalised row block the kernel multiplies with, as for the sublayer without the last normalisation. -/
theorem hn_at (x : FVec Ideal S1x512x1024 .f32) (g : FVec Ideal S1x1024 .f32) (r : Fin 512) (k : Fin 1024) :
    k0_pay4 (F := Ideal) x g (ix2 r k) = x (ix3 0 r k) * rscale (fun k' => x (ix3 0 r k')) * g (ix2 0 k) :=
  Cert.FfnIdeal.FfnValue.hn_at x g r k

/-- The last normalisation of a row block `O`, when its row `r` is `F`. -/
theorem norm_at (O : FVec Ideal S512x1024 .f32) (g : FVec Ideal S1x1024 .f32) (r : Fin 512) (j : Fin 1024) (F : Fin 1024 → EReal)
    (G : EReal) (hO : ∀ j', O (ix2 r j') = F j') (hg : g (ix2 0 j) = G) :
    k0_pay1 (F := Ideal) O (k0_pay126 g) (ix3 0 r j) = F j * rscale F * G := by
  have e : k0_pay1 (F := Ideal) O (k0_pay126 g) (ix3 0 r j)
      = O (ix2 r j) * rscale (fun j' => O (ix2 r j')) * g (ix2 0 j) := by
    pointwise [k0_pay1, k0_pay126, rscale]
  rw [e, hg]
  simp only [hO]

/-- The residual row block plus the down projection of the activations `A`. -/
theorem down_at (x : FVec Ideal S1x512x1024 .f32) (A : FVec Ideal S512x2816 .bf16) (w : FVec Ideal S2816x1024 .bf16) (r : Fin 512)
    (j : Fin 1024) : k0_pay125 (F := Ideal) (k0_pay3 x) A w (ix2 r j)
      = (show EReal from x (ix3 0 r j)) + ∑ f : Fin 2816, (show EReal from A (ix2 r f)) * (show EReal from w (ix2 f j)) := by
  pointwise [k0_pay125, k0_pay3]

end Cert.LastIdeal.LastValue
end
-- ==== Proof.LastValue.lean ====
/- The kernel with the last normalisation: its blocks, and what its carried scratch holds after each grid point. -/
module
public import proofs.«01_k».proof.Proof.Gen.LastIdeal.Value
public import proofs.«01_k».proof.Proof.FfnTiles
public import proofs.«01_k».proof.Proof.LastPay
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.LastIdeal.LastValue
open Cert.LastIdeal Cert.LastIdeal.Gen
variable (m : (ℓ : Loc nD τ sig) → Buf (Elt Ideal) ℓ)

open Cert.FfnSpec
open Cert.FfnIdeal.FfnValue (slotCol tails tails_at acts_at)

/-- The seven argument arrays of a device. -/
abbrev a0 (c : Dev nD) : Arr3 := m ((c : Thread nD τ).loc main_arg0)
abbrev a1 (c : Dev nD) : Vec1024 := m ((c : Thread nD τ).loc main_arg1)
abbrev a2 (c : Dev nD) : MatUp := m ((c : Thread nD τ).loc main_arg2)
abbrev a3 (c : Dev nD) : MatDw := m ((c : Thread nD τ).loc main_arg3)
abbrev a4 (c : Dev nD) : VecDw := m ((c : Thread nD τ).loc main_arg4)
abbrev a5 (c : Dev nD) : MatDown := m ((c : Thread nD τ).loc main_arg5)
abbrev a6 (c : Dev nD) : Vec1024 := m ((c : Thread nD τ).loc main_arg6)

/-- The block indices of the eight windows at point `t`. -/
theorem idx0 : ∀ t : Fin grid0.N, win0_0.index t = ![t.val / 16, t.val % 16, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![t.val / 16, t.val % 16, 0] := by decide +kernel

/-- There are 32 grid points. -/
theorem lt32 (t : Fin cfg0.N) : t.val < 32 := lt_of_lt_of_eq t.isLt N_0
/-- The sequence that point `t` works on. -/
abbrev seq (t : Fin cfg0.N) : Fin 2 := ⟨t.val / 16, by have := lt32 t; omega⟩

/-- The residual block at a point: 512 rows of its sequence. -/
theorem blk0 (c : Dev nD) (t : Fin cfg0.N) (r : Fin 512) (k : Fin 1024) :
    iblk m c 0 t (ix3 0 r k) = a0 m c (ix3 (seq t) ⟨512 * (t.val % 16) + r, by omega⟩ k) := by
  blk_ext [iblk, V, idx0 t]
/-- The block of the scale of the norm is the argument. -/
theorem blk1 (c : Dev nD) (t : Fin cfg0.N) (k : Fin 1024) : iblk m c 1 t (ix2 0 k) = a1 m c (ix1 k) := by
  blk_ext! [iblk, V, idx0 t]
/-- The block of the up projection is the argument. -/
theorem blk2 (c : Dev nD) (t : Fin cfg0.N) (k : Fin 1024) (col : Fin 5632) : iblk m c 2 t (ix2 k col) = a2 m c (ix2 k col) := by
  blk_ext! [iblk, V, idx0 t]
/-- The block of the taps is the argument. -/
theorem blk3 (c : Dev nD) (t : Fin cfg0.N) (k : Fin 3) (col : Fin 5632) : iblk m c 3 t (ix2 k col) = a3 m c (ix2 k col) := by
  blk_ext! [iblk, V, idx0 t]
/-- The block of the bias is the argument. -/
theorem blk4 (c : Dev nD) (t : Fin cfg0.N) (col : Fin 5632) : iblk m c 4 t (ix2 0 col) = a4 m c (ix1 col) := by
  blk_ext! [iblk, V, idx0 t]
/-- The block of the down projection is the argument. -/
theorem blk5 (c : Dev nD) (t : Fin cfg0.N) (f : Fin 2816) (j : Fin 1024) : iblk m c 5 t (ix2 f j) = a5 m c (ix2 f j) := by
  blk_ext! [iblk, V, idx0 t]

/-- The block of the scale of the last normalisation is the argument. -/
theorem blk6 (c : Dev nD) (t : Fin cfg0.N) (j : Fin 1024) : iblk m c 6 t (ix2 0 j) = a6 m c (ix1 j) := by
  blk_ext! [iblk, V, idx0 t]

/-- Row `r` of the point's up projection at column `col`. -/
theorem zblk (c : Dev nD) (t : Fin cfg0.N) (r : Fin 512) (col : Fin 5632) :
    ∑ k : Fin 1024, (show EReal from k0_pay4 (F := Ideal) (iblk m c 0 t) (iblk m c 1 t) (ix2 r k)) * (show EReal from iblk m c 2 t (ix2 k col))
      = zrow (a0 m c) (a1 m c) (a2 m c) (seq t) (512 * (t.val % 16) + r) col := by
  rw [zrow, dif_pos (by omega)]
  refine Finset.sum_congr rfl fun k _ => Ideal.mul_congr ?_ (blk2 m c t k col)
  rw [hn_at, normAt, blk1, blk0]
  have e : (fun k' => iblk m c 0 t (ix3 0 r k')) = fun k' => a0 m c (ix3 (seq t) ⟨512 * (t.val % 16) + r, by omega⟩ k') := funext fun k' => blk0 m c t r k'
  rw [e]

/-- What point `t` leaves in the carried scratch: slot `n` holds the last eight rows of its columns' up projection. -/
theorem carry (c : Dev nD) (t : Fin cfg0.N) (n : Fin 22) (i : Fin 8) (l : Fin 256) (col : Fin 5632)
    (hcol : (col : ℕ) = slotCol n + l) :
    (outsAt0 m c t.val t.isLt).2 (ix3 n i l)
      = zrow (a0 m c) (a1 m c) (a2 m c) (seq t) (512 * (t.val % 16) + 504 + i) col := by
  have e : ∀ L, View.canon (tails (k0_pay4 (F := Ideal) (iblk m c 0 t) (iblk m c 1 t)) (iblk m c 2 t) 22 (Nat.le_refl 22) ++ L) (ix3 n i l)
      = zrow (a0 m c) (a1 m c) (a2 m c) (seq t) (512 * (t.val % 16) + 504 + i) col := fun L =>
    (tails_at _ _ L n i l col hcol).trans ((zblk m c t _ col).trans (congrArg (fun R => zrow (a0 m c) (a1 m c) (a2 m c) (seq t) R col) (by dsimp only; omega)))
  by_cases h : t.val % 16 = 0
  · rw [outsAt0_A m c t h]
    frame_out
    exact e [_]
  · rw [outsAt0_B m c t h]
    frame_out
    exact e []

end Cert.LastIdeal.LastValue
end
-- ==== Proof.LastOut.lean ====
/- The kernel with the last normalisation: what each grid point leaves in the output block. -/
module
public import proofs.«01_k».proof.Proof.Gen.LastIdeal.Value
public import proofs.«01_k».proof.Proof.LastValue
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.LastIdeal.LastValue
open Cert.LastIdeal Cert.LastIdeal.Gen
variable (m : (ℓ : Loc nD τ sig) → Buf (Elt Ideal) ℓ)

open Cert.FfnSpec
open Cert.FfnIdeal.FfnValue (slotCol tails tails_at acts_at)

set_option maxHeartbeats 4000000 in
/-- What point `t` leaves in the output tile: the normalised rows of the sublayer, `512 * (t % 16) …` of sequence `t / 16`. -/
theorem point (c : Dev nD) (t : Fin cfg0.N) (r : Fin 512) (j : Fin 1024) :
    (outsAt0 m c t.val t.isLt).1 (ix3 0 r j)
      = lastAt (a0 m c) (a1 m c) (a2 m c) (a3 m c) (a4 m c) (a5 m c) (a6 m c) (seq t) ⟨512 * (t.val % 16) + r, by omega⟩ j := by
  have key := fun P hP => acts_at (a0 m c) (a1 m c) (a2 m c) (a3 m c) (a4 m c) (seq t) (t.val % 16)
    (k0_pay4 (F := Ideal) (iblk m c 0 t) (iblk m c 1 t)) (iblk m c 2 t) (iblk m c 3 t) (iblk m c 4 t) P (zblk m c t) hP (blk3 m c t) (blk4 m c t)
  unfold lastAt
  by_cases h : t.val % 16 = 0
  · rw [outsAt0_A m c t h]
    frame_open
    simp (disch := decide) only [↓ View.readCov_skip, ↓ View.readCov_cons_toLoadRect, ↓ View.readCov_fill]
    frame_out
    have hPP : ∀ (n : Fin 22) (i : Fin 8) (l : Fin 256) (col : Fin 5632), (col : ℕ) = slotCol n + l
        → k0_pay2 (F := Ideal) (ix3 n i l) = zback (a0 m c) (a1 m c) (a2 m c) (seq t) 8 (512 * (t.val % 16) + i) col := by
      intro n i l col hcol
      rw [zback, if_neg (by omega)]
      pointwise [k0_pay2]
    generalize k0_pay2 (F := Ideal) = P at hPP ⊢
    clear h
    refine norm_at _ _ r j (fun j' => outAt (a0 m c) (a1 m c) (a2 m c) (a3 m c) (a4 m c) (a5 m c) (seq t) ⟨512 * (t.val % 16) + r, by omega⟩ j') _ ?_ (blk6 m c t j)
    intro j'
    unfold outAt
    refine (down_at _ _ _ r j').trans ?_
    refine Ideal.add_congr (blk0 m c t r j') (Finset.sum_congr rfl fun f _ => Ideal.mul_congr ?_ (blk5 m c t f j'))
    rw [View.readCov_eq_canon_ld _ _ _ (View.cover_of_tiledL _ ![512, 256] (by sl_kernel_rfl))]
    refine (congrFun (View.ld_unit_lit _ _ (fun a => by fin_cases a <;> rfl)) _).trans ?_
    exact key _ hPP r f
  · have hlt : t.val - 1 < cfg0.N := by have := t.isLt; omega
    have hPP : ∀ (n : Fin 22) (i : Fin 8) (l : Fin 256) (col : Fin 5632), (col : ℕ) = slotCol n + l
        → (outsAt0 m c (t.val - 1) hlt).2 (ix3 n i l) = zback (a0 m c) (a1 m c) (a2 m c) (seq t) 8 (512 * (t.val % 16) + i) col := by
      intro n i l col hcol
      rw [zback, if_pos (by omega), carry m c ⟨t.val - 1, hlt⟩ n i l col hcol]
      have e : seq ⟨t.val - 1, hlt⟩ = seq t := Fin.ext (by simp only [seq]; omega)
      rw [e]
      exact congrArg (fun R => zrow (a0 m c) (a1 m c) (a2 m c) (seq t) R col) (by dsimp only; omega)
    rw [outsAt0_B m c t h]
    frame_out
    simp only [read_unread_whole]
    generalize (outsAt0 m c (t.val - 1) hlt).2 = P at hPP ⊢
    clear h
    refine norm_at _ _ r j (fun j' => outAt (a0 m c) (a1 m c) (a2 m c) (a3 m c) (a4 m c) (a5 m c) (seq t) ⟨512 * (t.val % 16) + r, by omega⟩ j') _ ?_ (blk6 m c t j)
    intro j'
    unfold outAt
    refine (down_at _ _ _ r j').trans ?_
    refine Ideal.add_congr (blk0 m c t r j') (Finset.sum_congr rfl fun f _ => Ideal.mul_congr ?_ (blk5 m c t f j'))
    rw [View.readCov_eq_canon_ld _ _ _ (View.cover_of_tiledL _ ![512, 256] (by sl_kernel_rfl))]
    refine (congrFun (View.ld_unit_lit _ _ (fun a => by fin_cases a <;> rfl)) _).trans ?_
    exact key _ hPP r f

end Cert.LastIdeal.LastValue
end
-- ==== Proof.LastFinal.lean ====
/- The kernel with the last normalisation: its result array. -/
module
public import proofs.«01_k».proof.Proof.LastOut
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.LastIdeal.LastValue
open Cert.LastIdeal Cert.LastIdeal.Gen Cert.FfnSpec
variable (m : (ℓ : Loc nD τ sig) → Buf (Elt Ideal) ℓ)

/-- The kernel's result array is the sublayer of its argument arrays with the last normalisation, at every entry. -/
theorem final (c : Dev nD) : (dats m 0 c).arrAt 7 cfg0.N
    = fun i => lastAt (a0 m c) (a1 m c) (a2 m c) (a3 m c) (a4 m c) (a5 m c) (a6 m c) (i 0) (i 1) (i 2) := by
  refine (dats m 0 c).arrAt_eq_of_covers 7 _ (by decide +kernel) fun t hf y => ?_
  blk_simp
  rw [after0_7]
  obtain ⟨-, -, -, -, -, -, -, e⟩ := idx0 t
  idx_vars y
  obtain rfl : y0 = 0 := Subsingleton.elim _ _
  refine (point m c t y1 y2).trans ?_
  have e0 : (((View.whole main_v5).slice (win0_7.rect t)).emb (ix3 0 y1 y2) 0) = seq t := Fin.ext (by blk_simp [e]; rfl)
  have e1 : (((View.whole main_v5).slice (win0_7.rect t)).emb (ix3 0 y1 y2) 1) = (⟨512 * (t.val % 16) + y1, by omega⟩ : Fin 8192) := Fin.ext (by blk_simp [e]; dsimp only; omega)
  have e2 : (((View.whole main_v5).slice (win0_7.rect t)).emb (ix3 0 y1 y2) 2) = y2 := Fin.ext (by blk_simp [e])
  rw [e0, e1, e2]

end Cert.LastIdeal.LastValue
end
-- ==== Proof.LastRef.lean ====
/- The reference with the last normalisation: its result array, entry by entry. -/
module
public import proofs.«01_k».proof.Proof.Gen.LastRefIdeal.Run
public import proofs.«01_k».proof.Proof.FfnRef
public import Idealize.ShloMosaic.Lib.Pipeline.ValueKit
public import Idealize.ShloMosaic.Lib.Pointwise
@[expose] public section
set_option maxRecDepth 16384
set_option pp.proofs false
noncomputable section
open Idealize.ShloMosaic Idealize.ShloMosaic.TcCoe Idealize.SL.Sem
namespace Cert.LastRefIdeal.LastRefValue
open Cert.LastRefIdeal Cert.LastRefIdeal.Gen Cert.FfnSpec
open Cert.FfnRefIdeal.FfnRefValue (taps back2 back1 back0)
variable (m : (ℓ : Loc nD τ sig) → Buf (Elt Ideal) ℓ)
/-- The argument arrays of a device. -/
abbrev a0 (c : Dev nD) : Arr3 := m ((c : Thread nD τ).loc main_arg0)
abbrev a1 (c : Dev nD) : Vec1024 := m ((c : Thread nD τ).loc main_arg1)
abbrev a2 (c : Dev nD) : MatUp := m ((c : Thread nD τ).loc main_arg2)
abbrev a3 (c : Dev nD) : MatDw := m ((c : Thread nD τ).loc main_arg3)
abbrev a4 (c : Dev nD) : VecDw := m ((c : Thread nD τ).loc main_arg4)
abbrev a5 (c : Dev nD) : MatDown := m ((c : Thread nD τ).loc main_arg5)
abbrev a6 (c : Dev nD) : Vec1024 := m ((c : Thread nD τ).loc main_arg6)

/-- The reference's last normalisation of an array `O` with the scale `g`. -/
def normOf (O : FVec Ideal S2x8192x1024 .f32) (g : FVec Ideal S1024 .f32) : FVec Ideal S2x8192x1024 .f32 :=
  mulf (mulf O (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf O O) (constant S_ .f32 0x00000000#32)
      reducesTo_S2x8192x1024_S2x8192_d2 h_S_)) (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The last normalisation, entry by entry. -/
theorem normOf_at (O : FVec Ideal S2x8192x1024 .f32) (g : FVec Ideal S1024 .f32) (b : Fin 2) (r : Fin 8192) (j : Fin 1024) :
    normOf O g (ix3 b r j) = O (ix3 b r j) * rscale (fun j' => O (ix3 b r j')) * g (ix1 j) := by
  pointwise [normOf, rscale]

/-- The reference's result is the last normalisation of the sublayer's output. -/
theorem split (c : Dev nD) : ∃ O : FVec Ideal S2x8192x1024 .f32,
    Cert.LastRefIdeal.Value.res_main_v58 (F := Ideal) m c = normOf O (a6 m c)
      ∧ ∀ (b : Fin 2) (r : Fin 8192) (j : Fin 1024), O (ix3 b r j) = outAt (a0 m c) (a1 m c) (a2 m c) (a3 m c) (a4 m c) (a5 m c) b r j := by
  refine ⟨_, rfl, ?_⟩
  intro b r j
  pointwise [outAt, actAt]
  have key : ∀ (n : ℕ) (hn : n < 5632) , _ := fun n hn => taps (a0 m c) (a1 m c) (a2 m c) (a3 m c) (a4 m c) b r ⟨n, hn⟩ _ _ _
    (back2 (a0 m c) (a1 m c) (a2 m c) b r n hn) (back1 (a0 m c) (a1 m c) (a2 m c) b r n hn) (back0 (a0 m c) (a1 m c) (a2 m c) b r n hn)
  refine Ideal.add_congr rfl (Finset.sum_congr rfl fun f _ => Ideal.mul_congr (Ideal.mul_congr ?_ (key f (by omega))) rfl)
  have g := key (2816 + f) (by omega)
  exact Ideal.mul_congr g (congrArg Ideal.logistic g)

/-- The reference's result, entry by entry, is the sublayer's output after the last normalisation. -/
theorem ref_at (c : Dev nD) (b : Fin 2) (r : Fin 8192) (j : Fin 1024) :
    Cert.LastRefIdeal.Value.res_main_v58 (F := Ideal) m c (ix3 b r j)
      = lastAt (a0 m c) (a1 m c) (a2 m c) (a3 m c) (a4 m c) (a5 m c) (a6 m c) b r j := by
  obtain ⟨O, h, hO⟩ := split m c
  rw [h, normOf_at]
  simp only [hO, lastAt]
end Cert.LastRefIdeal.LastRefValue
end
-- ==== Proof.GlaRefFrame.lean ====
/- The frame of the gated linear attention reference: its arguments are written by none of its operations. -/
module

public import proofs.«01_k».proof.Defs
public import proofs.«01_k».proof.Proof.Gen.GlaRefIdeal.Run
public import Idealize.ShloMosaic.Lib.Claim

@[expose] public section

noncomputable section

namespace Cert.GlaRefIdeal.Value

open Idealize.ShloMosaic Idealize.ShloMosaic.StableHlo Idealize.ShloMosaic.TcCoe
open Idealize.SL.Sem Cert.GlaRefIdeal.Gen

section Keep

variable {F : FTy → Type} [FloatOps F]

/-- The buffers this stretch after the loop writes. -/
abbrev hostOps0_9_W : List (Ref sig .tc) := [main_v60, main_v61, main_v62, main_v63, main_v64, main_cst_8, main_v65, main_v66, main_cst_9, main_v67, main_v68, main_cst_10, main_v69, main_v70, main_v71, main_v72, main_v73, main_v74, main_v75, main_v76, main_v77]
theorem hostOps0_9_writes : (hostOps0_9 : List (HloOp τ sig (Elt F))).Forall fun op => op.writes ⊆ (hostOps0_9_W.map (Proc.devRef (τ := τ) .tc)).toFinset :=
  StableHlo.forall_writes_sub_of_map rfl

/-- The buffers this stretch after the loop writes. -/
abbrev hostOps0_10_W : List (Ref sig .tc) := [main_call7_v0, main_call7_v1, main_call7_cst, main_call7_v2, main_call7_v3, main_call7_cst_0, main_call7_v4, main_call7_v5, main_v78]
theorem hostOps0_10_writes : (hostOps0_10 : List (HloOp τ sig (Elt F))).Forall fun op => op.writes ⊆ (hostOps0_10_W.map (Proc.devRef (τ := τ) .tc)).toFinset :=
  StableHlo.forall_writes_sub_of_map rfl

/-- The buffers this stretch after the loop writes. -/
abbrev hostOps0_11_W : List (Ref sig .tc) := [main_v79, main_v80, main_v81, main_v82]
theorem hostOps0_11_writes : (hostOps0_11 : List (HloOp τ sig (Elt F))).Forall fun op => op.writes ⊆ (hostOps0_11_W.map (Proc.devRef (τ := τ) .tc)).toFinset :=
  StableHlo.forall_writes_sub_of_map rfl

/-- Every buffer an operation of the program writes. -/
abbrev allW : List (Ref sig .tc) :=
  hostOps0_W ++ hostOps0_1_W ++ hostOps0_2_W ++ hostOps0_3_W ++ hostOps0_4_W ++ hostOps0_5_W ++ hostOps0_6_W ++ hostOps0_7_W ++ hostOps0_8_W ++
  while0Ops0_W ++ while0Ops0_1_W ++ while0Ops0_2_W ++ while0Ops0_3_W ++ while0Ops0_4_W ++ condOps_W ++
  hostOps0_9_W ++ hostOps0_10_W ++ hostOps0_11_W

/-- A buffer no operation writes is kept by the stretches before the loop. -/
theorem preI_keep (V : Valuation τ sig (Elt F)) (r : Ref sig .tc) (h : r ∉ allW) :
    afterL preI V (Proc.devRef .tc r) = V (Proc.devRef .tc r) := by
  simp only [allW, List.mem_append, not_or] at h
  simp only [afterL_cons, afterL_nil]
  refine (after_of_writes_sub hostOps0_8 _ hostOps0_8_writes (r := r) (by tauto)).trans ?_
  refine (after_of_writes_sub hostOps0_7 _ hostOps0_7_writes (r := r) (by tauto)).trans ?_
  refine (after_of_writes_sub hostOps0_6 _ hostOps0_6_writes (r := r) (by tauto)).trans ?_
  refine (after_of_writes_sub hostOps0_5 _ hostOps0_5_writes (r := r) (by tauto)).trans ?_
  refine (after_of_writes_sub hostOps0_4 _ hostOps0_4_writes (r := r) (by tauto)).trans ?_
  refine (after_of_writes_sub hostOps0_3 _ hostOps0_3_writes (r := r) (by tauto)).trans ?_
  refine (after_of_writes_sub hostOps0_2 _ hostOps0_2_writes (r := r) (by tauto)).trans ?_
  refine (after_of_writes_sub hostOps0_1 _ hostOps0_1_writes (r := r) (by tauto)).trans ?_
  refine (after_of_writes_sub hostOps0 _ hostOps0_writes (r := r) (by tauto)).trans ?_
  rfl

/-- A buffer no operation writes is kept by a trip of the loop. -/
theorem bodyI_keep (V : Valuation τ sig (Elt F)) (r : Ref sig .tc) (h : r ∉ allW) :
    afterL bodyI V (Proc.devRef .tc r) = V (Proc.devRef .tc r) := by
  simp only [allW, List.mem_append, not_or] at h
  simp only [afterL_cons, afterL_nil]
  refine (after_of_writes_sub while0Ops0_4 _ while0Ops0_4_writes (r := r) (by tauto)).trans ?_
  refine (after_of_writes_sub while0Ops0_3 _ while0Ops0_3_writes (r := r) (by tauto)).trans ?_
  refine (after_of_writes_sub while0Ops0_2 _ while0Ops0_2_writes (r := r) (by tauto)).trans ?_
  refine (after_of_writes_sub while0Ops0_1 _ while0Ops0_1_writes (r := r) (by tauto)).trans ?_
  refine (after_of_writes_sub while0Ops0 _ while0Ops0_writes (r := r) (by tauto)).trans ?_
  rfl

/-- A buffer no operation writes is kept by the stretches after the loop. -/
theorem postI_keep (V : Valuation τ sig (Elt F)) (r : Ref sig .tc) (h : r ∉ allW) :
    afterL postI V (Proc.devRef .tc r) = V (Proc.devRef .tc r) := by
  simp only [allW, List.mem_append, not_or] at h
  simp only [afterL_cons, afterL_nil]
  refine (after_of_writes_sub hostOps0_11 _ hostOps0_11_writes (r := r) (by tauto)).trans ?_
  refine (after_of_writes_sub hostOps0_10 _ hostOps0_10_writes (r := r) (by tauto)).trans ?_
  refine (after_of_writes_sub hostOps0_9 _ hostOps0_9_writes (r := r) (by tauto)).trans ?_
  rfl

/-- A buffer no operation writes is kept by the condition. -/
theorem condOps_keep (V : Valuation τ sig (Elt F)) (r : Ref sig .tc) (h : r ∉ allW) :
    after condOps V (Proc.devRef .tc r) = V (Proc.devRef .tc r) := by
  simp only [allW, List.mem_append, not_or] at h
  exact after_of_writes_sub condOps _ condOps_writes (r := r) (by tauto)

variable (m : (ℓ : Loc nD τ sig) → Buf (Elt F) ℓ)

/-- A buffer no operation writes is kept by any number of trips. -/
theorem atK_keep (c : Dev nD) (r : Ref sig .tc) (h : r ∉ allW) :
    ∀ k, atK m k c (Proc.devRef .tc r) = m ((c.tc : Thread nD τ).loc r)
  | 0 => preI_keep _ r h
  | k + 1 => (bodyI_keep _ r h).trans ((condOps_keep _ r h).trans (atK_keep c r h k))

/-- A buffer no operation writes ends as it began. -/
theorem final_keep (c : Dev nD) (r : Ref sig .tc) (h : r ∉ allW) :
    finalContents condOps preI bodyI postI 128 m c (Proc.devRef .tc r) = m ((c.tc : Thread nD τ).loc r) :=
  (postI_keep _ r h).trans ((condOps_keep _ r h).trans (atK_keep m c r h 128))

end Keep

/-- The reference runs, leaves its arguments as they were and every semaphore at zero. -/
theorem gla_ref_frame [Cert.GlaRefIdeal.Facts] : Cert.quiescent_GlaRefIdeal := fun m g _ =>
  (θ_run Cert.GlaRefIdeal.defs _ _).mono
    (fun r h => ⟨fun c => ⟨(h c main_arg0 rfl).trans (final_keep m c main_arg0 (by decide +kernel)), (h c main_arg1 rfl).trans (final_keep m c main_arg1 (by decide +kernel)), (h c main_arg2 rfl).trans (final_keep m c main_arg2 (by decide +kernel)), (h c main_arg3 rfl).trans (final_keep m c main_arg3 (by decide +kernel)), (h c main_arg4 rfl).trans (final_keep m c main_arg4 (by decide +kernel)), (h c main_arg5 rfl).trans (final_keep m c main_arg5 (by decide +kernel)), (h c main_arg6 rfl).trans (final_keep m c main_arg6 (by decide +kernel))⟩,
      sem_eq_zero_of_no_sems (by decide) r.2⟩) (run_fold m g)

end Cert.GlaRefIdeal.Value

end
-- ==== Proof.lean ====
module

public import proofs.«01_k».proof.Defs
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.GlaIdeal.Value
public import proofs.«01_k».proof.Proof.Gen.GlaRefIdeal.Run
public import proofs.«01_k».proof.Proof.Gen.FfnIdeal.Value
public import proofs.«01_k».proof.Proof.Gen.FfnRefIdeal.Run
public import proofs.«01_k».proof.Proof.Gen.LastIdeal.Value
public import proofs.«01_k».proof.Proof.Gen.LastRefIdeal.Run
public import proofs.«01_k».proof.Proof.FfnFinal
public import proofs.«01_k».proof.Proof.FfnRef
public import proofs.«01_k».proof.Proof.LastFinal
public import proofs.«01_k».proof.Proof.LastRef
public import proofs.«01_k».proof.Proof.GlaRefFrame
public import Idealize.ShloMosaic.Adequacy
public import Idealize.ShloMosaic.Lib.Claim
public import Idealize.ShloMosaic.Init

@[expose] public section

noncomputable section

namespace Cert.Proof

open Idealize.ShloMosaic Idealize.SL.Sem

/-- The ConvFFN reference runs, leaves its arguments as they were and every semaphore at zero. -/
theorem ffn_ref_frame [Cert.FfnRefIdeal.Facts] : Cert.quiescent_FfnRefIdeal := fun m g _ =>
  (θ_run Cert.FfnRefIdeal.defs _ _).mono
    (fun r h => ⟨fun c => (h c).2, sem_eq_zero_of_no_sems (by decide) r.2⟩) (Cert.FfnRefIdeal.Value.run m g)

/-- The reference of the last ConvFFN sublayer with the final norm runs, leaves its arguments as they were and every
    semaphore at zero. -/
theorem last_ref_frame [Cert.LastRefIdeal.Facts] : Cert.quiescent_LastRefIdeal := fun m g _ =>
  (θ_run Cert.LastRefIdeal.defs _ _).mono
    (fun r h => ⟨fun c => (h c).2, sem_eq_zero_of_no_sems (by decide) r.2⟩) (Cert.LastRefIdeal.Value.run m g)

/-- The ConvFFN kernel and its reference compute the same array over the extended reals. -/
theorem ffn_algebraic [Cert.FfnIdeal.Facts] [Cert.FfnRefIdeal.Facts] : Cert.algebraic_FfnIdeal_FfnRefIdeal := by
  pair_intro
  · run_from Cert.FfnIdeal.Value.run_blocks m g
  · run_from Cert.FfnRefIdeal.Value.run m' g'
    obtain ⟨h0, h1, h2, h3, h4, h5, -⟩ := hagree c
    rw [Cert.FfnIdeal.FfnValue.final m c]
    funext i
    idx_vars i
    refine (Cert.FfnRefIdeal.FfnRefValue.ref_at m' c _ _ _).trans ?_
    unfold Cert.FfnRefIdeal.FfnRefValue.a0 Cert.FfnRefIdeal.FfnRefValue.a1 Cert.FfnRefIdeal.FfnRefValue.a2
      Cert.FfnRefIdeal.FfnRefValue.a3 Cert.FfnRefIdeal.FfnRefValue.a4 Cert.FfnRefIdeal.FfnRefValue.a5
    rw [h0, h1, h2, h3, h4, h5]

/-- The ConvFFN kernel with the last normalisation and its reference compute the same array over the extended reals. -/
theorem last_algebraic [Cert.LastIdeal.Facts] [Cert.LastRefIdeal.Facts] : Cert.algebraic_LastIdeal_LastRefIdeal := by
  pair_intro
  · run_from Cert.LastIdeal.Value.run_blocks m g
  · run_from Cert.LastRefIdeal.Value.run m' g'
    obtain ⟨h0, h1, h2, h3, h4, h5, h6⟩ := hagree c
    rw [Cert.LastIdeal.LastValue.final m c]
    funext i
    idx_vars i
    refine (Cert.LastRefIdeal.LastRefValue.ref_at m' c _ _ _).trans ?_
    unfold Cert.LastRefIdeal.LastRefValue.a0 Cert.LastRefIdeal.LastRefValue.a1 Cert.LastRefIdeal.LastRefValue.a2
      Cert.LastRefIdeal.LastRefValue.a3 Cert.LastRefIdeal.LastRefValue.a4 Cert.LastRefIdeal.LastRefValue.a5 Cert.LastRefIdeal.LastRefValue.a6
    rw [h0, h1, h2, h3, h4, h5, h6]

/-- All the claims of the directory. -/
theorem claim : Cert.Claim :=
   ⟨Cert.Gla.Gen.facts, Cert.GlaIdeal.Gen.facts, Cert.GlaRefIdeal.Gen.facts, Cert.Ffn.Gen.facts, Cert.FfnIdeal.Gen.facts, Cert.FfnRefIdeal.Gen.facts, Cert.Last.Gen.facts, Cert.LastIdeal.Gen.facts, Cert.LastRefIdeal.Gen.facts,
    fun m ρ _ => Cert.Gla.Gen.frame m ρ, fun m ρ _ => Cert.GlaIdeal.Gen.frame m ρ, Cert.GlaRefIdeal.Value.gla_ref_frame,
    fun m ρ _ => Cert.Ffn.Gen.frame m ρ, fun m ρ _ => Cert.FfnIdeal.Gen.frame m ρ, ffn_ref_frame,
    fun m ρ _ => Cert.Last.Gen.frame m ρ, fun m ρ _ => Cert.LastIdeal.Gen.frame m ρ, last_ref_frame,
    trivial, trivial, ffn_algebraic, trivial, last_algebraic⟩

end Cert.Proof

end
